-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x1000x4 : Shape := ⟨3, ![32, 1000, 4]⟩
abbrev S32x1000 : Shape := ⟨2, ![32, 1000]⟩
abbrev S32x1000x91x4 : Shape := ⟨4, ![32, 1000, 91, 4]⟩
abbrev S_ : Shape := ⟨0, ![]⟩

class Facts : Prop where
  bcast_S_S32x1000 : S_.BroadcastsInDim S32x1000 (![] : Fin 0 → Fin S32x1000.rank)
  reducesTo_S32x1000_S_d0_1 : S32x1000.ReducesTo [0, 1] S_
  h_S_ : 0 < S_.numel

variable [Facts]

def fn {F : FTy → Type} [FloatOps F] (main_arg0 : FVec F S32x1000x4 .f32) (main_arg1 : IVec S32x1000 32) (main_arg2 : FVec F S32x1000x91x4 .f32) : IVec S_ 1 :=
  let main_c : IVec S_ 32 := constantI S_ 32 0#32
  let main_v0 : IVec S32x1000 32 := broadcastInDim S32x1000 ![] bcast_S_S32x1000 main_c
  let main_v1 : IVec S32x1000 1 := cmpi .sge main_arg1 main_v0
  let main_c_0 : IVec S_ 32 := constantI S_ 32 91#32
  let main_v2 : IVec S32x1000 32 := broadcastInDim S32x1000 ![] bcast_S_S32x1000 main_c_0
  let main_v3 : IVec S32x1000 1 := cmpi .slt main_arg1 main_v2
  let main_v4 : IVec S32x1000 1 := andi main_v1 main_v3
  let main_c_1 : IVec S_ 1 := constantI S_ 1 1#1
  let main_v5 : IVec S_ 1 := (fun x v => Host.reduce IntOp.andi x v reducesTo_S32x1000_S_d0_1 h_S_) main_v4 main_c_1
  main_v5
-- ==== Kernel.lean ====
abbrev S32x1000x4 : Shape := ⟨3, ![32, 1000, 4]⟩
abbrev S32x1000 : Shape := ⟨2, ![32, 1000]⟩
abbrev S32x1000x91x4 : Shape := ⟨4, ![32, 1000, 91, 4]⟩
abbrev S32000 : Shape := ⟨1, ![32000]⟩
abbrev S128000 : Shape := ⟨1, ![128000]⟩
abbrev S11648000 : Shape := ⟨1, ![11648000]⟩
abbrev S512 : Shape := ⟨1, ![512]⟩
abbrev S1024 : Shape := ⟨1, ![1024]⟩
abbrev S64x128 : Shape := ⟨2, ![64, 128]⟩
abbrev S4096 : Shape := ⟨1, ![4096]⟩
abbrev S32 : Shape := ⟨1, ![32]⟩
abbrev S_ : Shape := ⟨0, ![]⟩
abbrev S16 : Shape := ⟨1, ![16]⟩
abbrev S1000 : Shape := ⟨1, ![1000]⟩
abbrev S1x16 : Shape := ⟨2, ![1, 16]⟩
abbrev S128 : Shape := ⟨1, ![128]⟩
abbrev S1x128 : Shape := ⟨2, ![1, 128]⟩
abbrev S32x16 : Shape := ⟨2, ![32, 16]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 12
  | .local .tc .vmem => 3
  | .local .scVector .vmem => 6
  | _ => 0

abbrev bufTy : (tb : Table) → Fin (nBuf tb) → BufTy
  | .hbm, ⟨0, _⟩ => ⟨S32x1000x4, .f32⟩
  | .hbm, ⟨1, _⟩ => ⟨S32x1000, .i32⟩
  | .hbm, ⟨2, _⟩ => ⟨S32x1000x91x4, .f32⟩
  | .hbm, ⟨3, _⟩ => ⟨S32000, .i32⟩
  | .hbm, ⟨4, _⟩ => ⟨S128000, .f32⟩
  | .hbm, ⟨5, _⟩ => ⟨S11648000, .f32⟩
  | .hbm, ⟨6, _⟩ => ⟨S512, .f32⟩
  | .hbm, ⟨7, _⟩ => ⟨S512, .f32⟩
  | .hbm, ⟨8, _⟩ => ⟨S32x16, .f32⟩
  | .hbm, ⟨9, _⟩ => ⟨S32x16, .f32⟩
  | .hbm, ⟨10, _⟩ => ⟨S1x1, .f32⟩
  | .hbm, ⟨11, _⟩ => ⟨S_, .f32⟩
  | .local .tc .vmem, ⟨0, _⟩ => ⟨S32x16, .f32⟩
  | .local .tc .vmem, ⟨1, _⟩ => ⟨S32x16, .f32⟩
  | .local .tc .vmem, ⟨2, _⟩ => ⟨S1x1, .f32⟩
  | .local .scVector .vmem, ⟨0, _⟩ => ⟨S1024, .i32⟩
  | .local .scVector .vmem, ⟨1, _⟩ => ⟨S1024, .f32⟩
  | .local .scVector .vmem, ⟨2, _⟩ => ⟨S64x128, .i32⟩
  | .local .scVector .vmem, ⟨3, _⟩ => ⟨S4096, .f32⟩
  | .local .scVector .vmem, ⟨4, _⟩ => ⟨S4096, .f32⟩
  | .local .scVector .vmem, ⟨5, _⟩ => ⟨S32, .f32⟩
  | _, _ => ⟨S32x1000x4, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 4
abbrev cc1_sem1_0 : DmaSem sig := 5
abbrev cc1_sem2_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v2 : BitVec 32 := Scalar.muli v1 c1000_i32
  ![v2.toNat]
@[reducible] def k0_t1_loop : Scf.Loop 32 :=
  let c0_i32_2672 : BitVec 32 := 0#32
  let c64_i32_2673 : BitVec 32 := 64#32
  let v5517 : BitVec 32 := Scalar.addi c0_i32_2672 c64_i32_2673
  let c1_i32_2674 : BitVec 32 := 1#32
  ⟨c0_i32_2672, v5517, c1_i32_2674⟩
def k0_off2 (k0_t1 : Fin k0_t1_loop.trips) : Fin 1 → Nat :=
  let c0_i32_2672 : BitVec 32 := 0#32
  let c1_i32_2674 : BitVec 32 := 1#32
  let arg14 : BitVec 32 := Scf.iv c0_i32_2672 c1_i32_2674 k0_t1
  let c16_i32_2680 : BitVec 32 := 16#32
  let v5527 : BitVec 32 := Scalar.muli arg14 c16_i32_2680
  let v5528 : Index := Scalar.indexCast v5527
  ![v5528.toNat]
def k0_off3 (k0_t1 : Fin k0_t1_loop.trips) (c0_i32_2681 : BitVec 32) : Fin 1 → Nat :=
  let c0_i32_2672 : BitVec 32 := 0#32
  let c1_i32_2674 : BitVec 32 := 1#32
  let arg14 : BitVec 32 := Scf.iv c0_i32_2672 c1_i32_2674 k0_t1
  let c16_i32_2680 : BitVec 32 := 16#32
  let v5527 : BitVec 32 := Scalar.muli arg14 c16_i32_2680
  let v5531 : BitVec 32 := Scalar.addi v5527 c0_i32_2681
  let v5532 : Index := Scalar.indexCast v5531
  ![v5532.toNat]
def k0_off4 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_2678 : BitVec 32 := 16#32
  let v5525 : BitVec 32 := Scalar.muli v1 c16_i32_2678
  ![v5525.toNat]
abbrev grid1 : Pipeline.Grid := .none

abbrev stage1_0 : Fin 1 → Memref sig .tc .vmem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x1000x4 : Shape := ⟨3, ![32, 1000, 4]⟩
abbrev S32x1000 : Shape := ⟨2, ![32, 1000]⟩
abbrev S32x1000x91x4 : Shape := ⟨4, ![32, 1000, 91, 4]⟩
abbrev S32000 : Shape := ⟨1, ![32000]⟩
abbrev S32000x4 : Shape := ⟨2, ![32000, 4]⟩
abbrev S32000x91x4 : Shape := ⟨3, ![32000, 91, 4]⟩
abbrev S_ : Shape := ⟨0, ![]⟩
abbrev S32000x1x1 : Shape := ⟨3, ![32000, 1, 1]⟩
abbrev S1 : Shape := ⟨1, ![1]⟩
abbrev S1x1x1 : Shape := ⟨3, ![1, 1, 1]⟩
abbrev S32000x1 : Shape := ⟨2, ![32000, 1]⟩
abbrev S32000x1x4 : Shape := ⟨3, ![32000, 1, 4]⟩

abbrev nBuf : Space → Nat
  | .hbm => 67
  | .vmem => 0
  | .smem => 0
  | _ => 0

abbrev bufTy : (tb : Table) → Fin (tcTables nBuf tb) → BufTy
  | .hbm, ⟨0, _⟩ => ⟨S32x1000x4, .f32⟩
  | .hbm, ⟨1, _⟩ => ⟨S32x1000, .i32⟩
  | .hbm, ⟨2, _⟩ => ⟨S32x1000x91x4, .f32⟩
  | .hbm, ⟨3, _⟩ => ⟨S32000, .i32⟩
  | .hbm, ⟨4, _⟩ => ⟨S32000x4, .f32⟩
  | .hbm, ⟨5, _⟩ => ⟨S32000x91x4, .f32⟩
  | .hbm, ⟨6, _⟩ => ⟨S_, .i32⟩
  | .hbm, ⟨7, _⟩ => ⟨S32000, .i32⟩
  | .hbm, ⟨8, _⟩ => ⟨S32000, .i1⟩
  | .hbm, ⟨9, _⟩ => ⟨S_, .i32⟩
  | .hbm, ⟨10, _⟩ => ⟨S_, .i32⟩
  | .hbm, ⟨11, _⟩ => ⟨S32000, .i32⟩
  | .hbm, ⟨12, _⟩ => ⟨S32000, .i32⟩
  | .hbm, ⟨13, _⟩ => ⟨S32000x1x1, .i32⟩
  | .hbm, ⟨14, _⟩ => ⟨S_, .i32⟩
  | .hbm, ⟨15, _⟩ => ⟨S32000x1x1, .i32⟩
  | .hbm, ⟨16, _⟩ => ⟨S32000x1x1, .i1⟩
  | .hbm, ⟨17, _⟩ => ⟨S_, .i32⟩
  | .hbm, ⟨18, _⟩ => ⟨S32000x1x1, .i32⟩
  | .hbm, ⟨19, _⟩ => ⟨S32000x1x1, .i32⟩
  | .hbm, ⟨20, _⟩ => ⟨S32000x1x1, .i32⟩
  | .hbm, ⟨21, _⟩ => ⟨S1, .i32⟩
  | .hbm, ⟨22, _⟩ => ⟨S_, .i32⟩
  | .hbm, ⟨23, _⟩ => ⟨S32000x1x1, .i32⟩
  | .hbm, ⟨24, _⟩ => ⟨S32000x1x1, .i1⟩
  | .hbm, ⟨25, _⟩ => ⟨S1x1x1, .i32⟩
  | .hbm, ⟨26, _⟩ => ⟨S32000x1x1, .i32⟩
  | .hbm, ⟨27, _⟩ => ⟨S32000x1x1, .i1⟩
  | .hbm, ⟨28, _⟩ => ⟨S32000x1x1, .i1⟩
  | .hbm, ⟨29, _⟩ => ⟨S_, .i1⟩
  | .hbm, ⟨30, _⟩ => ⟨S32000x1, .i1⟩
  | .hbm, ⟨31, _⟩ => ⟨S32000x1x4, .f32⟩
  | .hbm, ⟨32, _⟩ => ⟨S32000x1x4, .i1⟩
  | .hbm, ⟨33, _⟩ => ⟨S_, .f32⟩
  | .hbm, ⟨34, _⟩ => ⟨S32000x1x4, .f32⟩
  | .hbm, ⟨35, _⟩ => ⟨S32000x1x4, .f32⟩
  | .hbm, ⟨36, _⟩ => ⟨S32000x4, .f32⟩
  | .hbm, ⟨37, _⟩ => ⟨S32000x4, .f32⟩
  | .hbm, ⟨38, _⟩ => ⟨S32000x4, .f32⟩
  | .hbm, ⟨39, _⟩ => ⟨S_, .f32⟩
  | .hbm, ⟨40, _⟩ => ⟨S32000x4, .f32⟩
  | .hbm, ⟨41, _⟩ => ⟨S32000x4, .i1⟩
  | .hbm, ⟨42, _⟩ => ⟨S32000x4, .f32⟩
  | .hbm, ⟨43, _⟩ => ⟨S_, .f32⟩
  | .hbm, ⟨44, _⟩ => ⟨S32000x4, .f32⟩
  | .hbm, ⟨45, _⟩ => ⟨S32000x4, .f32⟩
  | .hbm, ⟨46, _⟩ => ⟨S32000x4, .f32⟩
  | .hbm, ⟨47, _⟩ => ⟨S32000x4, .f32⟩
  | .hbm, ⟨48, _⟩ => ⟨S_, .f32⟩
  | .hbm, ⟨49, _⟩ => ⟨S32000x4, .f32⟩
  | .hbm, ⟨50, _⟩ => ⟨S32000x4, .f32⟩
  | .hbm, ⟨51, _⟩ => ⟨S_, .f32⟩
  | .hbm, ⟨52, _⟩ => ⟨S32000x4, .f32⟩
  | .hbm, ⟨53, _⟩ => ⟨S32000x4, .f32⟩
  | .hbm, ⟨54, _⟩ => ⟨S32000x4, .f32⟩
  | .hbm, ⟨55, _⟩ => ⟨S32000x4, .f32⟩
  | .hbm, ⟨56, _⟩ => ⟨S32000, .f32⟩
  | .hbm, ⟨57, _⟩ => ⟨S32000x1, .f32⟩
  | .hbm, ⟨58, _⟩ => ⟨S32000x4, .f32⟩
  | .hbm, ⟨59, _⟩ => ⟨S32000x4, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S32x1000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_c_1 : Ref sig .tc := ⟨.hbm, 21, rfl⟩
abbrev main_call1_c_2 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_c_3 : Ref sig .tc := ⟨.hbm, 29, rfl⟩
abbrev main_call1_v11 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_cst_3 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_cst_5 : Ref sig .tc := ⟨.hbm, 62, rfl⟩
abbrev main_v29 : Ref sig .tc := ⟨.hbm, 63, rfl⟩
abbrev main_cst_6 : Ref sig .tc := ⟨.hbm, 64, rfl⟩
abbrev main_v30 : Ref sig .tc := ⟨.hbm, 65, rfl⟩
abbrev main_v31 : Ref sig .tc := ⟨.hbm, 66, rfl⟩

abbrev nD : Nat := 1
abbrev τ : Topo := Topo.v7x

variable {F : FTy → Type} [FloatOps F]
-- ==== Proof.Gather.lean ====
/-
  Several indirect gathers outstanding on ONE DMA semaphore. A gather of `o` rows is `o` row transfers of one credit
  each, so a run of gathers is a batch of row transfers counted on the semaphore's cell: each gather issues the next `o`
  transfers of the batch (`wp_gatherBatch`), its wait takes the credit of `o` rows, and the wait that uses up the batch
  returns every row, which are every gather's destination written with its payload (`gather_join`).
-/
module

public import Idealize.ShloMosaic.Lib.Batch
public import Idealize.ShloMosaic.Lib.SparseCore.Stream
public import Idealize.ShloMosaic.Lib.Tactic

@[expose] public section

noncomputable section

namespace Cert.Gather

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

section Pending

variable {nD : Nat} {τ : Topo} {sig : RefSig} {Ix : Type} [DecidableEq Ix] {Val : EltTy → Type} {Name : Type} [DecidableEq Name]
variable {U : Type} [URA U] {Lvl : Type} {n : ℕ}

local notation "𝕄" => MT nD τ sig Ix Val Name U Lvl

/-- What is pending from `k` on is the next `o` and what is pending from `k + o` on. -/
theorem bigSep_pending_add (Φ : Fin n → sProp 𝕄) (k : ℕ) : ∀ (o : ℕ) (h : k + o ≤ n),
    bigSep (pending k) Φ = iprop((bigSep Finset.univ fun j : Fin o => Φ ⟨k + j.val, by omega⟩) ∗ bigSep (pending (k + o)) Φ)
  | 0, h => by
    rw [Finset.univ_eq_empty, BI.bigSep_empty]
    exact BI.Entails.antisymm (emp_sep (P := bigSep (pending k) Φ)).2 (emp_sep (P := bigSep (pending k) Φ)).1
  | o + 1, h => by
    rw [bigSep_pending_add Φ k o (by omega), bigSep_pending_step Φ (k + o) (by omega), Fin.univ_castSuccEmb, Finset.cons_eq_insert,
      BI.bigSep_insert (by simp), BI.bigSep_map]
    have hswap : ∀ A B C : sProp 𝕄, iprop(A ∗ (B ∗ C)) ⊢ iprop((B ∗ A) ∗ C) := fun A B C => by
      iintro ⟨HA, HB, HC⟩
      isplitr [HC]
      · isplitl [HB] <;> iassumption
      · iexact HC
    have hback : ∀ A B C : sProp 𝕄, iprop((B ∗ A) ∗ C) ⊢ iprop(A ∗ (B ∗ C)) := fun A B C => by
      iintro ⟨⟨HB, HA⟩, HC⟩
      isplitl [HA]; · iexact HA
      isplitl [HB] <;> iassumption
    exact BI.Entails.antisymm (hswap _ _ _) (hback _ _ _)

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What row `j` of a gather gives back: the destination's row written with the source's row the list names, the list's
    entry, and the row's piece of the source's share. -/
def rowDone (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (ho : 0 < s.size hg.axis') (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (fun i : (s.rowShape hg.axis').Idx => src.view.read (Elt F) fs (hg.rowIdx (r j) i)) Finset.univ))
        ∗ (offs.view.loc c ↦[{offs.view.emb (si.rowMajor.symm (j.cast hn.symm))}]{qo} fo))
      ∗ (src.view.loc c ↦[src.view.set]{pieceOf q _ ho j} fs))

instance rowDone_storable (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (ho : 0 < s.size hg.axis') (r : Fin (s.size hg.axis') → Fin (s₀.size hg.axis)) (j : Fin (s.size hg.axis')) :
    Storable (upEmb : UEmb _ 𝕄) (rowDone c src dst hg offs hn q qo fs fd fo ho r j) := by
  unfold rowDone; infer_instance

omit [Preorder Lvl] in
/-- Every row given back is the destination written with the gather's payload, the source's share and the list's. -/
theorem gather_join {src : Memref sig c.2.kind sp s₀ e} {dst : Memref sig c.2.kind .vmem s e} {hg : s₀.Gathers a s}
    {offs : Memref sig c.2.kind .vmem si .i32} {hn : si.numel = s.size hg.axis'} {q qo : PosShare TreeShare}
    {fs : Buf (Elt F) (src.view.loc c)} {fd : Buf (Elt F) (dst.view.loc c)} {fo : Buf (Elt F) (offs.view.loc c)}
    {ho : 0 < s.size hg.axis'} {r : Fin (s.size hg.axis') → Fin (s₀.size hg.axis)} :
    bigSep Finset.univ (rowDone c src dst hg offs hn q qo fs fd fo ho r)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) : sProp 𝕄) := by
  have hen : Function.Bijective (fun j : Fin (s.size hg.axis') => si.rowMajor.symm (j.cast hn.symm)) :=
    si.rowMajor.symm.bijective.comp (finCongr hn.symm).bijective
  unfold rowDone
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · iapply (pointsTo_rows_write c dst.view hg.axis' fd (fun j (i : (s.rowShape hg.axis').Idx) => src.view.read (Elt F) fs (hg.rowIdx (r j) i))
      (gatherPayload hg (src.view.read (Elt F) fs) r) (fun j i => by unfold gatherPayload; rw [Shape.Gathers.idx_rowRect_emb])) $$ Hrows
  isplitl [Hsrc]
  · iapply (Entails.of_eq (pointsTo_piecesOf (src.view.set) fs ho q).symm) $$ Hsrc
  iapply (Entails.of_eq (pointsTo_entries c offs.view _ hen qo fo).symm) $$ Hoffs

/-- A gather issued into a batch at transfer `k₀`: its rows are the batch's next transfers. The list's words are in range
    (`hin`), every row credits `N` (`hN`), and each row's return is the batch's delivery at its place (`hD`). -/
theorem wp_gatherBatch [Infinite Name] [EC.LandsIn (upEmb : UEmb _ 𝕄)] {n : ℕ} {D : Fin n → sProp 𝕄}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N k₀ : ℕ) (ho : 0 < s.size hg.axis')
    (hN : ∀ j, (dst.slice (s.rowRect hg.axis' j) (s.stride_rowRect hg.axis' j)).view.dmaCredit = N)
    (hin : ∀ x, (offs.view.read (Elt F) fo x).toNat < s₀.size hg.axis) (hk : k₀ + s.size hg.axis' ≤ n)
    (hD : ∀ j : Fin (s.size hg.axis'), rowDone c src dst hg offs hn q qo fs fd fo ho (rows (offs.view.read (Elt F) fo) hn hin) j
      ⊢ D ⟨k₀ + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k₀ 0)
      ⊢ iprop((Batch EC c (.dma sem) ι N D (k₀ + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N := by
    rw [Finset.sum_congr rfl fun j _ => hN j, Finset.sum_const, Finset.card_univ, Fintype.card_fin, smul_eq_mul]
  iintro ⟨Hs, Hd, Ho, HB⟩ Hk
  unfold Batch
  icases HB with ⟨%γ, %γ₀, %κ, #Hinv, HI, H0, Hcred⟩
  ihave HI' := (Entails.of_eq (bigSep_pending_add (fun t => count EC (γ t) 0) k₀ (s.size hg.axis') hk)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ j, iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨k₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (fun i : (s.rowShape hg.axis').Idx => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (SemLoc.dma sem) = N from hN j]
        iapply (batch_creditUpdate EC ⟨k₀ + j.val, by omega⟩ (hD j))
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [Nat.sub_zero, Nat.sub_zero, Nat.add_mul, ← tallyAt_add]
    icombine Hcred Hcred' as H
    iexact H

end Cert.Gather
-- ==== Proof.Kernel.BodyEq.lean ====
/-
  The printed body is the one the proof runs. The printed body is read against a continuation-passing form of the same
  sequence, which unfolds one memory operation at a time; that form is the body's own pieces bound in order.
-/
module

public import proofs.«01_k».proof.Proof.Kernel.BodyK

@[expose] public section

noncomputable section

namespace Cert.Kernel.Tile

open Cert.Kernel Cert.Kernel.Gen
open Idealize.ShloMosaic Idealize.SL.Sem

variable {F : FTy → Type} [FloatOps F]
variable (i : grid0.Coords)

set_option maxRecDepth 1000000 in
set_option maxHeartbeats 0 in
/-- The printed body is this one. -/
theorem body_eqK :
    cc0__sc_body (F := F) i tciV (Memref.isWhole_whole _) tbV (Memref.isWhole_whole _) predV (Memref.isWhole_whole _) sumV (Memref.isWhole_whole _)
      cntV (Memref.isWhole_whole _) idsV (Memref.isWhole_whole _) maskV (Memref.isWhole_whole _) idxV (Memref.isWhole_whole _) gathV (Memref.isWhole_whole _)
      tbtV (Memref.isWhole_whole _) outV (Memref.isWhole_whole _) cc0_scratch6 cc0_scoped0 cc0_scoped1 cc0_scoped2 = bodyK i := rfl

/-- The printed body is the sequence of its pieces. -/
theorem body_eq :
    cc0__sc_body (F := F) i tciV (Memref.isWhole_whole _) tbV (Memref.isWhole_whole _) predV (Memref.isWhole_whole _) sumV (Memref.isWhole_whole _)
      cntV (Memref.isWhole_whole _) idsV (Memref.isWhole_whole _) maskV (Memref.isWhole_whole _) idxV (Memref.isWhole_whole _) gathV (Memref.isWhole_whole _)
      tbtV (Memref.isWhole_whole _) outV (Memref.isWhole_whole _) cc0_scratch6 cc0_scoped0 cc0_scoped1 cc0_scoped2 = body i :=
  (body_eqK i).trans (bodyK_eq i)

end Cert.Kernel.Tile
-- ==== Proof.Classes.lean ====
/-
  What the precondition says of the class numbers: each is one of the ninety-one.
-/
module

public import proofs.«01_k».proof.Pre_in_range
public import Idealize.ShloMosaic.Lib.ReduceAll

@[expose] public section

noncomputable section

namespace Cert.Pre_in_range

open Idealize.ShloMosaic

/-- A word that is at least 0 and below 91 as a signed number is below 91 as a natural one. -/
theorem word_lt (v : BitVec 32) (h : IntOp.andi (IntOp.cmpi .sge v 0#32) (IntOp.cmpi .slt v 91#32) = 1#1) : v.toNat < 91 := by
  have both : ∀ p q : Bool, IntOp.andi (BitVec.ofBool p) (BitVec.ofBool q) = 1#1 → p = true ∧ q = true := by decide
  obtain ⟨h0, h1⟩ := both _ _ h
  change (0#32).sle v = true at h0
  change v.slt 91#32 = true at h1
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond] at h1
  simp only [BitVec.toNat_ofNat] at h0 h1
  omega

instance : Subsingleton S_.Idx := ⟨fun a b => funext fun k : Fin 0 => k.elim0⟩

/-- The precondition's bound on every class number. -/
theorem classes_lt [Facts] {F : FTy → Type} [FloatOps F] (a0 : FVec F S32x1000x4 .f32) (a1 : IVec S32x1000 32) (a2 : FVec F S32x1000x91x4 .f32)
    (h : fn a0 a1 a2 = fun _ => 1#1) (x : S32x1000.Idx) : (a1 x).toNat < 91 := by
  have e := congrFun h (fun k : Fin 0 => k.elim0)
  simp only [fn] at e
  exact word_lt _ (Host.reduce_andi_all _ _ _ _ _ e x)

end Cert.Pre_in_range
-- ==== Proof.KernelIdeal.Body.lean ====
/-
  The SparseCore kernel's body in the form the proof runs it: the printed body unrolls 64 blocks of sixteen rows and 64
  gathers; here each is one definition at a symbolic block number, and the body is their sequence. `body_eq` says the
  printed body is this one.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Idealize.ShloMosaic Idealize.SL.Sem

variable {F : FTy → Type} [FloatOps F]

/-- The processor of the grid point `i`: a vector subcore. -/
abbrev proc (i : grid0.Coords) : Proc τ := .scVector ((i 0).castLE hcore0) ((i 1).castLE hsub0)

/-- Programs of the tile at `i`. -/
abbrev TileProg (F : FTy → Type) (i : grid0.Coords) (α : Type) : Type 1 := Prog (TpuEff nD τ sig (Elt F) Λ₀ (proc i)) α

/-! ## The buffers -/

abbrev tciV : Memref sig .scVector .hbm S32000 .i32 := Memref.whole main_v0_scv
abbrev tbV : Memref sig .scVector .hbm S128000 .f32 := Memref.whole main_v1_scv
abbrev predV : Memref sig .scVector .hbm S11648000 .f32 := Memref.whole main_v2_scv
abbrev sumV : Memref sig .scVector .hbm S512 .f32 := Memref.whole main_v3_0_scv
abbrev cntV : Memref sig .scVector .hbm S512 .f32 := Memref.whole main_v3_1_scv
abbrev idsV : Memref sig .scVector .vmem S1024 .i32 := Memref.whole cc0_scratch0
abbrev maskV : Memref sig .scVector .vmem S1024 .f32 := Memref.whole cc0_scratch1
abbrev idxV : Memref sig .scVector .vmem S64x128 .i32 := Memref.whole cc0_scratch2
abbrev gathV : Memref sig .scVector .vmem S4096 .f32 := Memref.whole cc0_scratch3
abbrev tbtV : Memref sig .scVector .vmem S4096 .f32 := Memref.whole cc0_scratch4
abbrev outV : Memref sig .scVector .vmem S32 .f32 := Memref.whole cc0_scratch5

/-! ## Rectangles at a symbolic block -/

theorem row_inb (j : Fin 64) : ∀ a, (![16 * j.val] : Fin 1 → ℕ) a + S16.size a ≤ S1024.size a := by
  intro a; obtain rfl : a = 0 := Subsingleton.elim _ _
  change 16 * j.val + 16 ≤ 1024; omega

/-- Sixteen rows from row `16 j`. -/
abbrev rowR (j : Fin 64) : Rect S1024 := Rect.unit (s := S1024) ![16 * j.val] S16.size (row_inb j)

theorem idx_inb (r : Fin 8) (j : Fin 64) :
    ∀ a, (![8 * r.val + j.val / 8, 16 * (j.val % 8)] : Fin 2 → ℕ) a + S1x16.size a ≤ S64x128.size a := by
  intro a
  match a with
  | 0 => change 8 * r.val + j.val / 8 + 1 ≤ 64; omega
  | 1 => change 16 * (j.val % 8) + 16 ≤ 128; omega

/-- Where block `j` stores its sixteen offsets of list group `r` (the four coordinates of the predictions, then the
    four of the targets): 1024 offsets a group, eight rows of 128. -/
abbrev idxR (r : Fin 8) (j : Fin 64) : Rect S64x128 :=
  Rect.unit (s := S64x128) ![8 * r.val + j.val / 8, 16 * (j.val % 8)] S1x16.size (idx_inb r j)

theorem list_inb (r : Fin 64) : ∀ a, (![r.val, 0] : Fin 2 → ℕ) a + S1x128.size a ≤ S64x128.size a := by
  intro a
  match a with
  | 0 => change r.val + 1 ≤ 64; omega
  | 1 => change 0 + 128 ≤ 128; omega

theorem dst_inb (g : Fin 32) : ∀ a, (![128 * g.val] : Fin 1 → ℕ) a + S128.size a ≤ S4096.size a := by
  intro a; obtain rfl : a = 0 := Subsingleton.elim _ _
  change 128 * g.val + 128 ≤ 4096; omega

/-- Row `r` of the offset lists, as a list of 128. -/
abbrev listM (r : Fin 64) : Memref sig .scVector .vmem S128 .i32 :=
  (idxV.slice (Rect.unit (s := S64x128) ![r.val, 0] S1x128.size (list_inb r)) (fun _ => rfl)).squeeze S128 squeezes_S1x128_S128
/-- Block `g` of 128 of the gathered predictions. -/
abbrev gathM (g : Fin 32) : Memref sig .scVector .vmem S128 .f32 :=
  gathV.slice (Rect.unit (s := S4096) ![128 * g.val] S128.size (dst_inb g)) (fun _ => rfl)
/-- Block `g` of 128 of the gathered targets. -/
abbrev tbtM (g : Fin 32) : Memref sig .scVector .vmem S128 .f32 :=
  tbtV.slice (Rect.unit (s := S4096) ![128 * g.val] S128.size (dst_inb g)) (fun _ => rfl)
/-- The predictions as the gathers name them: the whole array. -/
abbrev predM : Memref sig .scVector .hbm S11648000 .f32 :=
  predV.slice (Rect.unit (s := S11648000) ![0] S11648000.size inb_S11648000_S11648000_0) (fun _ => rfl)
/-- The targets as the gathers name them. -/
abbrev tbM : Memref sig .scVector .hbm S128000 .f32 :=
  tbV.slice (Rect.unit (s := S128000) ![0] S128000.size inb_S128000_S128000_0) (fun _ => rfl)

/-! ## The values a block computes -/

/-- The tile's first row. -/
def base (i : grid0.Coords) : BitVec 32 :=
  Scalar.muli (Scalar.addi (Scalar.muli (BitVec.ofNat 32 (i 0).val) 16#32) (BitVec.ofNat 32 (i 1).val)) 1000#32

/-- The lane numbers. -/
def lanes : IVec S16 32 := iota .scVector S16 32 [0] iota_S16_d0_w32_scVector

/-- Which lanes hold a foreground row. -/
def posOf (c : IVec S16 32) : IVec S16 1 := cmpi .sgt c (broadcast S16 0#32)

/-- The mask of sixteen rows: 1 at a foreground row, 0 elsewhere. -/
def maskOf (c : IVec S16 32) : FVec F S16 .f32 :=
  select (posOf c) (broadcast S16 (Scalar.ofBits .f32 0x3F800000#32)) (broadcast S16 (Scalar.ofBits .f32 0x00000000#32))

/-- The tile's own row numbers of block `j`. -/
def rowL (j : Fin 64) : IVec S16 32 := addi (broadcast S16 (BitVec.ofNat 32 (16 * j.val))) lanes

/-- Which of them are rows of the tile (the last block is past its thousandth row). -/
def validOf (j : Fin 64) : IVec S16 1 := cmpi .slt (rowL j) (broadcast S16 1000#32)

/-- The same rows numbered in the whole array. -/
def rowG (i : grid0.Coords) (j : Fin 64) : IVec S16 32 := addi (broadcast S16 (base i)) (rowL j)

/-- The first coordinate's position in the predictions: 364 a row, 4 a class. -/
def predOff (i : grid0.Coords) (j : Fin 64) (c : IVec S16 32) : IVec S16 32 :=
  select (validOf j)
    (addi (muli (rowG i j) (broadcast S16 364#32)) (muli (select (posOf c) c (broadcast S16 0#32)) (broadcast S16 4#32)))
    (broadcast S16 0#32)

/-- The first coordinate's position in the targets: 4 a row. -/
def tbOff (i : grid0.Coords) (j : Fin 64) : IVec S16 32 :=
  select (validOf j) (muli (rowG i j) (broadcast S16 4#32)) (broadcast S16 0#32)

/-! ## The body's pieces -/

/-- Sixteen offsets `v + b` stored for block `j` in group `r` (the load before the store is the kernel's, its value unused). -/
def putIdx (i : grid0.Coords) (j : Fin 64) (r : Fin 8) (v : IVec S16 32) (b : BitVec 32) : TileProg F i PUnit := do
  let _v : Vec F S1x16 .i32 ← Prog.lift (.load idxV (idxR r j).toLoadRect (View.loadsAt_vmem h_S1x16))
  Prog.lift (.store idxV (idxR r j) (shapeCast S1x16 (addi v (broadcast S16 b)) shapeCasts_S16_S1x16) Finset.univ (View.stores_vmem_bits_univ h_S1x16 rfl) (.inl rfl))

/-- Block `j` of sixteen rows: their mask and their eight offsets each; the count of foreground rows so far goes in and out. -/
def block (i : grid0.Coords) (j : Fin 64) (cnt : FVec F S16 .f32) : TileProg F i (FVec F S16 .f32) := do
  let v : Vec F S16 .i32 ← Prog.lift (.load idsV (rowR j).toLoadRect (View.loadsAt_vmem h_S16))
  let c : IVec S16 32 := shapeCast S16 v shapeCasts_S16_S16
  let _v : Vec F S16 .f32 ← Prog.lift (.load maskV (rowR j).toLoadRect (View.loadsAt_vmem h_S16))
  Prog.lift (.store maskV (rowR j) (shapeCast S16 (maskOf (F := F) c) shapeCasts_S16_S16) Finset.univ (View.stores_vmem_bits_univ h_S16 rfl) (.inl rfl))
  putIdx i j 0 (predOff i j c) 0#32
  putIdx i j 4 (tbOff i j) 0#32
  putIdx i j 1 (predOff i j c) 1#32
  putIdx i j 5 (tbOff i j) 1#32
  putIdx i j 2 (predOff i j c) 2#32
  putIdx i j 6 (tbOff i j) 2#32
  putIdx i j 3 (predOff i j c) 3#32
  putIdx i j 7 (tbOff i j) 3#32
  pure (addf cnt (maskOf c))

/-- The last `n` of the 64 blocks, in order. -/
def blocks (i : grid0.Coords) : (n : ℕ) → n ≤ 64 → FVec F S16 .f32 → TileProg F i (FVec F S16 .f32)
  | 0, _, cnt => pure cnt
  | n + 1, h, cnt => block i ⟨63 - n, by omega⟩ cnt >>= blocks i n (by omega)

/-- The two gathers of block `g` of 128 rows and one coordinate. -/
def issue (i : grid0.Coords) (g : Fin 32) : TileProg F i PUnit := do
  SparseCore.enqueueIndirectGather rfl predM (gathM g) gathers_S11648000_S128 (listM ⟨g.val, by omega⟩) rfl cc0_scratch6.sem (View.wordExact_bits rfl) rfl (Or.inl rfl)
  SparseCore.enqueueIndirectGather rfl tbM (tbtM g) gathers_S128000_S128 (listM ⟨32 + g.val, by omega⟩) rfl cc0_scratch6.sem (View.wordExact_bits rfl) rfl (Or.inl rfl)

/-- The last `n` of the 32 pairs of gathers. -/
def issues (i : grid0.Coords) : (n : ℕ) → n ≤ 32 → TileProg F i PUnit
  | 0, _ => pure ⟨⟩
  | n + 1, h => issue i ⟨31 - n, by omega⟩ >>= fun _ => issues i n (by omega)

/-- The two waits of block `g`. -/
def await (i : grid0.Coords) (g : Fin 32) : TileProg F i PUnit := do
  SparseCore.waitIndirectGather cc0_scratch6.sem predM (gathM g) (View.wordExact_bits rfl) (View.wordExact_bits rfl)
  SparseCore.waitIndirectGather cc0_scratch6.sem tbM (tbtM g) (View.wordExact_bits rfl) (View.wordExact_bits rfl)

/-- The last `n` of the 32 pairs of waits. -/
def awaits (i : grid0.Coords) : (n : ℕ) → n ≤ 32 → TileProg F i PUnit
  | 0, _ => pure ⟨⟩
  | n + 1, h => await i ⟨31 - n, by omega⟩ >>= fun _ => awaits i n (by omega)

/-- The smooth L1 term of sixteen differences, `|t - p|` squared and halved below one, less a half from there on, times
    the mask, added to `acc`. -/
def addTerm (acc m t p : FVec F S16 .f32) : FVec F S16 .f32 :=
  let d : FVec F S16 .f32 := absf (subf (shapeCast S16 t shapeCasts_S16_S16) (shapeCast S16 p shapeCasts_S16_S16))
  addf acc (mulf (select (cmpf .olt d (broadcast S16 (Scalar.ofBits .f32 0x3F800000#32)))
    (mulf (mulf (broadcast S16 (Scalar.ofBits .f32 0x3F000000#32)) d) d)
    (subf d (broadcast S16 (Scalar.ofBits .f32 0x3F000000#32)))) (shapeCast S16 m shapeCasts_S16_S16))

/-- Sixteen rows' terms of all four coordinates added to `acc`. -/
def term (i : grid0.Coords) (t : Fin k0_t1_loop.trips) (acc : FVec F S16 .f32) : TileProg F i (FVec F S16 .f32) := do
  let m : Vec F S16 .f32 ← Prog.lift (.load maskV (Rect.unit (s := S1024) (k0_off2 t) S16.size (k0_off2_inb t)).toLoadRect (View.loadsAt_vmem h_S16))
  let t0 : Vec F S16 .f32 ← Prog.lift (.load tbtV (Rect.unit (s := S4096) (k0_off3 t 0#32) S16.size (k0_off3_inb t 0)).toLoadRect (View.loadsAt_vmem h_S16))
  let p0 : Vec F S16 .f32 ← Prog.lift (.load gathV (Rect.unit (s := S4096) (k0_off3 t 0#32) S16.size (k0_off3_inb t 0)).toLoadRect (View.loadsAt_vmem h_S16))
  let t1 : Vec F S16 .f32 ← Prog.lift (.load tbtV (Rect.unit (s := S4096) (k0_off3 t 1024#32) S16.size (k0_off3_inb t 1)).toLoadRect (View.loadsAt_vmem h_S16))
  let p1 : Vec F S16 .f32 ← Prog.lift (.load gathV (Rect.unit (s := S4096) (k0_off3 t 1024#32) S16.size (k0_off3_inb t 1)).toLoadRect (View.loadsAt_vmem h_S16))
  let t2 : Vec F S16 .f32 ← Prog.lift (.load tbtV (Rect.unit (s := S4096) (k0_off3 t 2048#32) S16.size (k0_off3_inb t 2)).toLoadRect (View.loadsAt_vmem h_S16))
  let p2 : Vec F S16 .f32 ← Prog.lift (.load gathV (Rect.unit (s := S4096) (k0_off3 t 2048#32) S16.size (k0_off3_inb t 2)).toLoadRect (View.loadsAt_vmem h_S16))
  let t3 : Vec F S16 .f32 ← Prog.lift (.load tbtV (Rect.unit (s := S4096) (k0_off3 t 3072#32) S16.size (k0_off3_inb t 3)).toLoadRect (View.loadsAt_vmem h_S16))
  let p3 : Vec F S16 .f32 ← Prog.lift (.load gathV (Rect.unit (s := S4096) (k0_off3 t 3072#32) S16.size (k0_off3_inb t 3)).toLoadRect (View.loadsAt_vmem h_S16))
  pure (addTerm (addTerm (addTerm (addTerm acc m t0 p0) m t1 p1) m t2 p2) m t3 p3)

/-- The tile's slice of the class numbers, and where the fetch puts it. -/
abbrev tciM (i : grid0.Coords) : Memref sig .scVector .hbm S1000 .i32 :=
  tciV.slice (Rect.unit (s := S32000) (k0_off1 i) S1000.size (k0_off1_inb i)) (fun _ => rfl)
abbrev idsM : Memref sig .scVector .vmem S1000 .i32 :=
  idsV.slice (Rect.unit (s := S1024) ![0] S1000.size inb_S1024_S1000_0) (fun _ => rfl)

/-- The class numbers fetched, the padding past the thousandth zeroed first. -/
def fetch (i : grid0.Coords) : TileProg F i PUnit := do
  let _v : Vec F S16 .i32 ← Prog.lift (.load idsV (Rect.unit (s := S1024) ![992] S16.size inb_S1024_S16_992).toLoadRect (View.loadsAt_vmem h_S16))
  Prog.lift (.store idsV (Rect.unit (s := S1024) ![992] S16.size inb_S1024_S16_992) (shapeCast S16 (broadcast S16 0#32 : IVec S16 32) shapeCasts_S16_S16) Finset.univ (View.stores_vmem_bits_univ h_S16 rfl) (.inl rfl))
  let _v : Vec F S16 .i32 ← Prog.lift (.load idsV (Rect.unit (s := S1024) ![1008] S16.size inb_S1024_S16_1008).toLoadRect (View.loadsAt_vmem h_S16))
  Prog.lift (.store idsV (Rect.unit (s := S1024) ![1008] S16.size inb_S1024_S16_1008) (shapeCast S16 (broadcast S16 0#32 : IVec S16 32) shapeCasts_S16_S16) Finset.univ (View.stores_vmem_bits_univ h_S16 rfl) (.inl rfl))
  Prog.lift (.enqueueDma (tciM i) (.here idsM) (.dma cc0_scoped0.sem) (View.wordExact_bits rfl) (View.wordExact_bits rfl) ⟨Or.inl rfl, trivial⟩)
  Prog.lift (.waitDma2 cc0_scoped0.sem (tciM i) idsM (View.wordExact_bits rfl) (View.wordExact_bits rfl))

/-- The sixteen partial sums and the sixteen counts, in the tile's own buffer and in the results. -/
abbrev outSumM : Memref sig .scVector .vmem S16 .f32 := outV.slice (Rect.unit (s := S32) ![0] S16.size inb_S32_S16_0) (fun _ => rfl)
abbrev outCntM : Memref sig .scVector .vmem S16 .f32 := outV.slice (Rect.unit (s := S32) ![16] S16.size inb_S32_S16_16) (fun _ => rfl)
abbrev sumM (i : grid0.Coords) : Memref sig .scVector .hbm S16 .f32 := sumV.slice (Rect.unit (s := S512) (k0_off4 i) S16.size (k0_off4_inb i)) (fun _ => rfl)
abbrev cntM (i : grid0.Coords) : Memref sig .scVector .hbm S16 .f32 := cntV.slice (Rect.unit (s := S512) (k0_off4 i) S16.size (k0_off4_inb i)) (fun _ => rfl)

/-- Sums and counts stored and copied out. -/
def output (i : grid0.Coords) (acc cnt : FVec F S16 .f32) : TileProg F i PUnit := do
  let _v : Vec F S16 .f32 ← Prog.lift (.load outV (Rect.unit (s := S32) ![0] S16.size inb_S32_S16_0).toLoadRect (View.loadsAt_vmem h_S16))
  Prog.lift (.store outV (Rect.unit (s := S32) ![0] S16.size inb_S32_S16_0) (shapeCast S16 acc shapeCasts_S16_S16) Finset.univ (View.stores_vmem_bits_univ h_S16 rfl) (.inl rfl))
  let _v : Vec F S16 .f32 ← Prog.lift (.load outV (Rect.unit (s := S32) ![16] S16.size inb_S32_S16_16).toLoadRect (View.loadsAt_vmem h_S16))
  Prog.lift (.store outV (Rect.unit (s := S32) ![16] S16.size inb_S32_S16_16) (shapeCast S16 cnt shapeCasts_S16_S16) Finset.univ (View.stores_vmem_bits_univ h_S16 rfl) (.inl rfl))
  Prog.lift (.enqueueDma outSumM (.here (sumM i)) (.dma cc0_scoped1.sem) (View.wordExact_bits rfl) (View.wordExact_bits rfl) ⟨Or.inl rfl, trivial⟩)
  Prog.lift (.waitDma2 cc0_scoped1.sem outSumM (sumM i) (View.wordExact_bits rfl) (View.wordExact_bits rfl))
  Prog.lift (.enqueueDma outCntM (.here (cntM i)) (.dma cc0_scoped2.sem) (View.wordExact_bits rfl) (View.wordExact_bits rfl) ⟨Or.inl rfl, trivial⟩)
  Prog.lift (.waitDma2 cc0_scoped2.sem outCntM (cntM i) (View.wordExact_bits rfl) (View.wordExact_bits rfl))

/-- Sixteen zeros. -/
def zeros : FVec F S16 .f32 := broadcast S16 (Scalar.ofBits .f32 0x00000000#32)

/-- The body. -/
def body (i : grid0.Coords) : TileProg F i PUnit := do
  fetch i
  let cnt ← blocks i 64 le_rfl zeros
  issues i 32 le_rfl
  awaits i 32 le_rfl
  let acc ← Scf.Loop.for k0_t1_loop k0_t1_ok zeros fun t acc => term i t acc
  output i acc cnt
  pure ⟨⟩

end Cert.KernelIdeal.Tile
-- ==== Proof.KernelIdeal.Vals.lean ====
/-
  What the SparseCore kernel's tiles compute, as functions of the three flat arrays: the class numbers, the mask and the
  offsets of a tile's 1024 rows (1000 and padding), the gathered predictions and targets, and the sixteen lanes' partial
  sums and counts.
-/
module

public import proofs.«01_k».proof.Proof.KernelIdeal.Body

@[expose] public section

noncomputable section

namespace Cert.KernelIdeal.Tile

open Cert.KernelIdeal Cert.KernelIdeal.Gen
open Idealize.ShloMosaic Idealize.SL.Sem

variable {F : FTy → Type} [FloatOps F]

/-- The tile's number among the thirty-two. -/
def wid (i : grid0.Coords) : ℕ := 16 * (i 0).val + (i 1).val

theorem wid_lt (i : grid0.Coords) : wid i < 32 := by
  have h0 : (i 0).val < 2 := (i 0).isLt
  have h1 : (i 1).val < 16 := (i 1).isLt
  unfold wid; omega

/-- Element `n` of an array of 32000, of the targets, of the predictions, of buffers of 1024 and of 4096 (reduced modulo the length: every use is in range). -/
def at1 (n : ℕ) : S32000.Idx := fun a => match a with | 0 => ⟨n % 32000, Nat.mod_lt _ (by decide)⟩
def at2 (n : ℕ) : S128000.Idx := fun a => match a with | 0 => ⟨n % 128000, Nat.mod_lt _ (by decide)⟩
def at3 (n : ℕ) : S11648000.Idx := fun a => match a with | 0 => ⟨n % 11648000, Nat.mod_lt _ (by decide)⟩
def e1024 (n : ℕ) : S1024.Idx := fun a => match a with | 0 => ⟨n % 1024, Nat.mod_lt _ (by decide)⟩
def e4096 (n : ℕ) : S4096.Idx := fun a => match a with | 0 => ⟨n % 4096, Nat.mod_lt _ (by decide)⟩
/-- Lane `n` of a vector of sixteen. -/
def lane (n : ℕ) : S16.Idx := fun a => match a with | 0 => ⟨n % 16, Nat.mod_lt _ (by decide)⟩

variable (i : grid0.Coords) (ids : S32000.Idx → Elt F .i32) (tb : S128000.Idx → Elt F .f32) (pred : S11648000.Idx → Elt F .f32)

/-- The tile's class numbers: its thousand rows', then zeros. -/
def idsF : S1024.Idx → Elt F .i32 := fun x =>
  if (x 0).val < 1000 then ids (at1 (1000 * wid i + (x 0).val)) else (0#32 : BitVec 32)

/-- Block `j`'s sixteen class numbers. -/
def blk (j : Fin 64) : IVec S16 32 := fun l => idsF i ids (e1024 (16 * j.val + (l 0).val))

/-- The mask of the tile's rows. -/
def maskF : S1024.Idx → Elt F .f32 := fun x =>
  maskOf (F := F) (blk i ids ⟨(x 0).val / 16, by have : (x 0).val < 1024 := (x 0).isLt; omega⟩) (lane (x 0).val)

/-- Which block of sixteen rows an entry of the offset lists belongs to. -/
def jOf (x : S64x128.Idx) : Fin 64 := ⟨(x 0).val % 8 * 8 + (x 1).val / 16, by have : (x 1).val < 128 := (x 1).isLt; omega⟩

/-- The offset lists: four groups of 1024 offsets in the predictions, four of offsets in the targets. -/
def idxF : S64x128.Idx → Elt F .i32 := fun x =>
  if (x 0).val / 8 < 4 then addi (predOff i (jOf x) (blk i ids (jOf x))) (broadcast S16 (BitVec.ofNat 32 ((x 0).val / 8))) (lane (x 1).val)
  else addi (tbOff i (jOf x)) (broadcast S16 (BitVec.ofNat 32 ((x 0).val / 8 - 4))) (lane (x 1).val)

/-- Entry `(r, c)` of the offset lists. -/
def atIdx (r : ℕ) (c : ℕ) : S64x128.Idx := fun a => match a with
  | 0 => ⟨r % 64, Nat.mod_lt _ (by decide)⟩
  | 1 => ⟨c % 128, Nat.mod_lt _ (by decide)⟩

/-- The gathered predictions: at each of the 4096 places the prediction its offset names. -/
def gathF : S4096.Idx → Elt F .f32 := fun x =>
  pred (at3 (BitVec.toNat (idxF i ids (atIdx ((x 0).val / 128) (x 0).val))))

/-- The gathered targets. -/
def tbtF : S4096.Idx → Elt F .f32 := fun x =>
  tb (at2 (BitVec.toNat (idxF i ids (atIdx (32 + (x 0).val / 128) (x 0).val))))

/-- Sixteen elements of a buffer, from element `n`. -/
def from1024 {α : Type} (f : S1024.Idx → α) (n : ℕ) : S16.Idx → α := fun l => f (e1024 (n + (l 0).val))
def from4096 {α : Type} (f : S4096.Idx → α) (n : ℕ) : S16.Idx → α := fun l => f (e4096 (n + (l 0).val))

/-- One pass of the loop over the sixteen rows from row `16 t`. -/
def accStep (acc : FVec F S16 .f32) (t : ℕ) : FVec F S16 .f32 :=
  let m := from1024 (maskF i ids) (16 * t)
  let T := fun b => from4096 (tbtF i ids tb) (16 * t + b)
  let P := fun b => from4096 (gathF i ids pred) (16 * t + b)
  addTerm (addTerm (addTerm (addTerm acc m (T 0) (P 0)) m (T 1024) (P 1024)) m (T 2048) (P 2048)) m (T 3072) (P 3072)

/-- The partial sums after `t` passes. -/
def accAt : ℕ → FVec F S16 .f32
  | 0 => zeros
  | t + 1 => accStep i ids tb pred (accAt t) t

/-- The counts after `j` blocks. -/
def cntAt : ℕ → FVec F S16 .f32
  | 0 => zeros
  | j + 1 => addf (cntAt j) (maskOf (F := F) (blk i ids ⟨j % 64, Nat.mod_lt _ (by decide)⟩))

end Cert.KernelIdeal.Tile
-- ==== Proof.KernelIdeal.Setup.lean ====
/-
  The program as the launch theorem sees it, and the resources the proof of a tile runs over.
-/
module

public import proofs.«01_k».proof.Proof.KernelIdeal.Vals
public import proofs.«01_k».proof.Proof.Gather

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none

/-- The handshakes' rounds, the pipeline's rounds, and the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-- The pipeline's rounds inside the machine's algebra. -/
abbrev EP : Emb (UR sig nD τ) (MT nD τ sig (HIx 1) (Elt F) ℕ UU ℕ) :=
  (Emb.inl : Emb (UR sig nD τ) (UR sig nD τ × Counters)).trans embR

/-- The tile at grid point `i` of device `d`. -/
abbrev thr (d : Dev nD) (i : grid0.Coords) : Thread nD τ := V d ((i 0).castLE hcore0) ((i 1).castLE hsub0)

end Cert.KernelIdeal.Tile
-- ==== Proof.KernelIdeal.Gathers.lean ====
/-
  The tile's 64 gathers, all outstanding on one semaphore: 32 of 128 predictions and 32 of 128 targets, each row of each
  one transfer of a batch of 8192.
-/
module

public import proofs.«01_k».proof.Proof.KernelIdeal.Setup
public import Idealize.ShloMosaic.Lib.Pipeline.Value
public import Idealize.ShloMosaic.Lib.ValueLayout

@[expose] public section

noncomputable section

namespace Cert.KernelIdeal.Tile

open Cert.KernelIdeal Cert.KernelIdeal.Gen Cert.Gather
open Idealize.ShloMosaic Idealize.ShloMosaic.Transfers
open Idealize.ShloMosaic.SparseCore (S V T rows gatherPayload)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

variable (d : Dev nD) (i : grid0.Coords)

/-- The list row of the predictions' gather `g`, and of the targets'. -/
abbrev listP (g : Fin 32) : Memref sig .scVector .vmem S128 .i32 := listM ⟨g.val, by omega⟩
abbrev listT (g : Fin 32) : Memref sig .scVector .vmem S128 .i32 := listM ⟨32 + g.val, by omega⟩

/-! ## The elements each gather touches -/

theorem set_predM : predM.view.set = Finset.univ := by
  show ((View.whole main_v2_scv).slice _).set = _
  rw [View.set_slice]
  refine Finset.eq_univ_of_forall fun x => Finset.mem_map.mpr ⟨x, ?_, rfl⟩
  rw [Rect.mem_set_unit]
  intro (a : Fin 1)
  obtain rfl : a = 0 := Subsingleton.elim _ _
  have : (x 0).val < 11648000 := (x 0).isLt
  exact ⟨Nat.zero_le _, by show _ < 0 + 11648000; omega⟩

theorem set_tbM : tbM.view.set = Finset.univ := by
  show ((View.whole main_v1_scv).slice _).set = _
  rw [View.set_slice]
  refine Finset.eq_univ_of_forall fun x => Finset.mem_map.mpr ⟨x, ?_, rfl⟩
  rw [Rect.mem_set_unit]
  intro (a : Fin 1)
  obtain rfl : a = 0 := Subsingleton.elim _ _
  have : (x 0).val < 128000 := (x 0).isLt
  exact ⟨Nat.zero_le _, by show _ < 0 + 128000; omega⟩

theorem set_gathM (g : Fin 32) : (gathM g).view.set = (Rect.unit (s := S4096) ![128 * g.val] S128.size (dst_inb g)).set := by
  show ((View.whole cc0_scratch3).slice _).set = _
  rw [View.set_slice]; exact Finset.map_refl

theorem mem_gathM (g : Fin 32) (x : S4096.Idx) : x ∈ (gathM g).view.set ↔ (x 0).val / 128 = g.val := by
  rw [set_gathM, Rect.mem_set_unit]
  refine (Fin.forall_fin_one (p := fun a : Fin 1 => (![128 * g.val] : Fin 1 → ℕ) a ≤ (x a).val ∧ (x a).val < (![128 * g.val] : Fin 1 → ℕ) a + S128.size a)).trans ?_
  change (128 * g.val ≤ (x 0).val ∧ (x 0).val < 128 * g.val + 128) ↔ _
  omega

theorem set_tbtM (g : Fin 32) : (tbtM g).view.set = (Rect.unit (s := S4096) ![128 * g.val] S128.size (dst_inb g)).set := by
  show ((View.whole cc0_scratch4).slice _).set = _
  rw [View.set_slice]; exact Finset.map_refl

theorem mem_tbtM (g : Fin 32) (x : S4096.Idx) : x ∈ (tbtM g).view.set ↔ (x 0).val / 128 = g.val := by
  rw [set_tbtM, Rect.mem_set_unit]
  refine (Fin.forall_fin_one (p := fun a : Fin 1 => (![128 * g.val] : Fin 1 → ℕ) a ≤ (x a).val ∧ (x a).val < (![128 * g.val] : Fin 1 → ℕ) a + S128.size a)).trans ?_
  change (128 * g.val ≤ (x 0).val ∧ (x 0).val < 128 * g.val + 128) ↔ _
  omega

theorem set_listM (r : Fin 64) : (listM r).view.set = (Rect.unit (s := S64x128) ![r.val, 0] S1x128.size (list_inb r)).set := by
  show (((View.whole cc0_scratch2).slice (Rect.unit (s := S64x128) ![r.val, 0] S1x128.size (list_inb r))).reshape S128 squeezes_S1x128_S128.numel_eq).set = _
  rw [View.set_reshape, View.set_slice]; exact Finset.map_refl

theorem mem_listM (r : Fin 64) (x : S64x128.Idx) : x ∈ (listM r).view.set ↔ (x 0).val = r.val := by
  rw [set_listM, Rect.mem_set_unit]
  refine (Fin.forall_fin_two (p := fun a : Fin 2 => (![r.val, 0] : Fin 2 → ℕ) a ≤ (x a).val ∧ (x a).val < (![r.val, 0] : Fin 2 → ℕ) a + S1x128.size a)).trans ?_
  have : (x 1).val < 128 := (x 1).isLt
  change ((r.val ≤ (x 0).val ∧ (x 0).val < r.val + 1) ∧ (0 ≤ (x 1).val ∧ (x 1).val < 0 + 128)) ↔ _
  omega

theorem gathM_cover : (Finset.univ.biUnion fun g : Fin 32 => (gathM g).view.set) = (Finset.univ : Finset S4096.Idx) :=
  Finset.eq_univ_of_forall fun x => Finset.mem_biUnion.mpr ⟨⟨(x 0).val / 128, by have : (x 0).val < 4096 := (x 0).isLt; omega⟩,
    Finset.mem_univ _, (mem_gathM _ x).mpr rfl⟩
theorem gathM_disjoint : ∀ g ∈ (Finset.univ : Finset (Fin 32)), ∀ g' ∈ (Finset.univ : Finset (Fin 32)), g ≠ g' → Disjoint (gathM g).view.set (gathM g').view.set :=
  fun g _ g' _ h => Finset.disjoint_left.mpr fun x hx hx' => h (Fin.ext (((mem_gathM g x).mp hx).symm.trans ((mem_gathM g' x).mp hx')))

/-- A buffer of 4096 is its 32 blocks of 128. -/
theorem gath_blocks (f : S4096.Idx → Elt F .f32) :
    (gathV.view.loc (thr d i) ↦{fullShare} f : sProp 𝕄) = bigSep Finset.univ fun g : Fin 32 => (gathM g).view.loc (thr d i) ↦[(gathM g).view.set]{fullShare} f := by
  rw [← pointsTo_biUnion (ℓ := gathV.view.loc (thr d i)) (q := fullShare) (f := f) Finset.univ (fun g : Fin 32 => (gathM g).view.set) gathM_disjoint]
  exact congrArg (fun S => (gathV.view.loc (thr d i) ↦[S]{fullShare} f : sProp 𝕄)) gathM_cover.symm

theorem tbtM_cover : (Finset.univ.biUnion fun g : Fin 32 => (tbtM g).view.set) = (Finset.univ : Finset S4096.Idx) :=
  Finset.eq_univ_of_forall fun x => Finset.mem_biUnion.mpr ⟨⟨(x 0).val / 128, by have : (x 0).val < 4096 := (x 0).isLt; omega⟩,
    Finset.mem_univ _, (mem_tbtM _ x).mpr rfl⟩
theorem tbtM_disjoint : ∀ g ∈ (Finset.univ : Finset (Fin 32)), ∀ g' ∈ (Finset.univ : Finset (Fin 32)), g ≠ g' → Disjoint (tbtM g).view.set (tbtM g').view.set :=
  fun g _ g' _ h => Finset.disjoint_left.mpr fun x hx hx' => h (Fin.ext (((mem_tbtM g x).mp hx).symm.trans ((mem_tbtM g' x).mp hx')))

/-- A buffer of 4096 is its 32 blocks of 128. -/
theorem tbt_blocks (f : S4096.Idx → Elt F .f32) :
    (tbtV.view.loc (thr d i) ↦{fullShare} f : sProp 𝕄) = bigSep Finset.univ fun g : Fin 32 => (tbtM g).view.loc (thr d i) ↦[(tbtM g).view.set]{fullShare} f := by
  rw [← pointsTo_biUnion (ℓ := tbtV.view.loc (thr d i)) (q := fullShare) (f := f) Finset.univ (fun g : Fin 32 => (tbtM g).view.set) tbtM_disjoint]
  exact congrArg (fun S => (tbtV.view.loc (thr d i) ↦[S]{fullShare} f : sProp 𝕄)) tbtM_cover.symm

theorem listM_cover : (Finset.univ.biUnion fun r : Fin 64 => (listM r).view.set) = (Finset.univ : Finset S64x128.Idx) :=
  Finset.eq_univ_of_forall fun x => Finset.mem_biUnion.mpr ⟨⟨(x 0).val, (x 0).isLt⟩, Finset.mem_univ _, (mem_listM _ x).mpr rfl⟩
theorem listM_disjoint : ∀ g ∈ (Finset.univ : Finset (Fin 64)), ∀ g' ∈ (Finset.univ : Finset (Fin 64)), g ≠ g' → Disjoint (listM g).view.set (listM g').view.set :=
  fun g _ g' _ h => Finset.disjoint_left.mpr fun x hx hx' => h (Fin.ext (((mem_listM g x).mp hx).symm.trans ((mem_listM g' x).mp hx')))

/-- The offset lists are their 64 rows: 32 of the predictions' gathers and 32 of the targets'. -/
theorem list_rows (f : S64x128.Idx → Elt F .i32) :
    (idxV.view.loc (thr d i) ↦{fullShare} f : sProp 𝕄)
      = iprop((bigSep Finset.univ fun g : Fin 32 => (listP g).view.loc (thr d i) ↦[(listP g).view.set]{fullShare} f)
          ∗ (bigSep Finset.univ fun g : Fin 32 => (listT g).view.loc (thr d i) ↦[(listT g).view.set]{fullShare} f)) := by
  have h1 : (idxV.view.loc (thr d i) ↦{fullShare} f : sProp 𝕄) = bigSep Finset.univ fun r : Fin 64 => (listM r).view.loc (thr d i) ↦[(listM r).view.set]{fullShare} f := by
    rw [← pointsTo_biUnion (ℓ := idxV.view.loc (thr d i)) (q := fullShare) (f := f) Finset.univ (fun r : Fin 64 => (listM r).view.set) listM_disjoint]
    exact congrArg (fun S => (idxV.view.loc (thr d i) ↦[S]{fullShare} f : sProp 𝕄)) listM_cover.symm
  rw [h1, bigSep_univ_equiv (finSumFinEquiv (m := 32) (n := 32)) (fun r : Fin 64 => ((listM r).view.loc (thr d i) ↦[(listM r).view.set]{fullShare} f : sProp 𝕄)),
    bigSep_univ_sum]
  rfl

/-! ## What a list row reads, and what its gather lands -/

theorem emb_listM (r : Fin 64) (y : Fin 128) : (listM r).view.emb (ix1 y) = atIdx r.val y.val := by
  show (((View.whole cc0_scratch2).slice (Rect.unit (s := S64x128) ![r.val, 0] S1x128.size (list_inb r))).reshape S128 squeezes_S1x128_S128.numel_eq).emb (ix1 y) = _
  have e : Shape.reshapeEquiv squeezes_S1x128_S128.numel_eq (ix1 y) = ix2 (0 : Fin 1) y :=
    Shape.reshapeEquiv_eq_of_rowMajor _ (by
      rw [Shape.rowMajor_val_two, Shape.rowMajor_val_one]
      show 0 * 128 + y.val = y.val
      omega)
  show (Rect.unit (s := S64x128) ![r.val, 0] S1x128.size (list_inb r)).emb (Shape.reshapeEquiv squeezes_S1x128_S128.numel_eq (ix1 y)) = _
  rw [e]
  funext a
  match a with
  | 0 => exact Fin.ext (show r.val + 1 * 0 = r.val % 64 by omega)
  | 1 => exact Fin.ext (show 0 + 1 * y.val = y.val % 128 by omega)

/-- Every offset the predictions' gathers read is in the predictions, every one the targets' gathers read in the targets. -/
def InRange (fo : S64x128.Idx → Elt F .i32) : Prop :=
  ∀ x : S64x128.Idx, ((x 0).val < 32 → BitVec.toNat (fo x) < 11648000) ∧ (32 ≤ (x 0).val → BitVec.toNat (fo x) < 128000)

theorem read_listM (fo : S64x128.Idx → Elt F .i32) (r : Fin 64) (y : S128.Idx) :
    (listM r).view.read (Elt F) fo y = fo (atIdx r.val (y 0).val) := by
  have e : y = ix1 (y 0) := by
    funext (a : Fin 1); obtain rfl : a = 0 := Subsingleton.elim _ _; rfl
  conv_lhs => rw [e]
  exact congrArg fo (emb_listM r (y 0))

theorem hinP {fo : S64x128.Idx → Elt F .i32} (h : InRange (F := F) fo) (g : Fin 32) :
    ∀ x, ((listP g).view.read (Elt F) fo x).toNat < S11648000.size gathers_S11648000_S128.axis := fun x => by
  rw [read_listM]
  exact (h _).1 (show g.val % 64 < 32 by omega)

theorem hinT {fo : S64x128.Idx → Elt F .i32} (h : InRange (F := F) fo) (g : Fin 32) :
    ∀ x, ((listT g).view.read (Elt F) fo x).toNat < S128000.size gathers_S128000_S128.axis := fun x => by
  rw [read_listM]
  exact (h _).2 (show 32 ≤ (32 + g.val) % 64 by omega)

abbrev rowsP {fo : S64x128.Idx → Elt F .i32} (h : InRange (F := F) fo) (g : Fin 32) :=
  rows (F := F) (o := S128.size gathers_S11648000_S128.axis') ((listP g).view.read (Elt F) fo) rfl (hinP h g)
abbrev rowsT {fo : S64x128.Idx → Elt F .i32} (h : InRange (F := F) fo) (g : Fin 32) :=
  rows (F := F) (o := S128.size gathers_S128000_S128.axis') ((listT g).view.read (Elt F) fo) rfl (hinT h g)

theorem rowMajor_symm_one (k : Fin 128) (h : 128 = S128.numel) : ((S128.rowMajor.symm (k.cast h)) 0).val = k.val := by
  have e := congrArg Fin.val (S128.rowMajor.apply_symm_apply (k.cast h))
  rw [Shape.rowMajor_val_one] at e
  exact e

/-- What the predictions' gather `g` lands is its block of the gathered predictions, -/
theorem landP (ids : S32000.Idx → Elt F .i32) (pred : S11648000.Idx → Elt F .f32) (fg : S4096.Idx → Elt F .f32)
    (h : InRange (F := F) (idxF i ids)) (g : Fin 32) :
    ((gathM g).view.loc (thr d i) ↦[(gathM g).view.set]{fullShare}
        ((gathM g).view.write (Elt F) fg (gatherPayload gathers_S11648000_S128 (predM.view.read (Elt F) pred) (rowsP h g)) Finset.univ) : sProp 𝕄)
      = (gathM g).view.loc (thr d i) ↦[(gathM g).view.set]{fullShare} gathF i ids pred := by
  refine pointsTo_congr fun x hx => ?_
  obtain ⟨y, -, rfl⟩ := Finset.mem_map.mp hx
  rw [View.write_emb_of_mem _ _ (Finset.mem_univ y)]
  have hy : (y 0).val < 128 := (y 0).isLt
  have hx0 : (((gathM g).view.emb y) 0).val = 128 * g.val + (y 0).val := show 128 * g.val + 1 * (y 0).val = _ by omega
  have hb := (h (atIdx (g.val) (y 0).val)).1 (show g.val % 64 < 32 by omega)
  have e1 : (rowsP h g (y 0)).val = BitVec.toNat (idxF (F := F) i ids (atIdx (g.val) (y 0).val)) :=
    (congrArg BitVec.toNat (read_listM (idxF (F := F) i ids) ⟨g.val, by omega⟩ _)).trans
      (congrArg (fun n => BitVec.toNat (idxF (F := F) i ids (atIdx (g.val) n))) (rowMajor_symm_one (y 0) rfl))
  have e2 : atIdx ((((gathM g).view.emb y) 0).val / 128) (((gathM g).view.emb y) 0).val = atIdx (g.val) (y 0).val := by
    rw [hx0]
    funext a
    match a with
    | 0 => exact Fin.ext (show ((128 * g.val + (y 0).val) / 128) % 64 = (g.val) % 64 by omega)
    | 1 => exact Fin.ext (show (128 * g.val + (y 0).val) % 128 = (y 0).val % 128 by omega)
  refine congrArg pred (funext fun (a : Fin 1) => ?_)
  obtain rfl : a = 0 := Subsingleton.elim _ _
  refine Fin.ext ?_
  show 0 + 1 * (rowsP h g (y 0)).val = BitVec.toNat (idxF (F := F) i ids (atIdx ((((gathM g).view.emb y) 0).val / 128) (((gathM g).view.emb y) 0).val)) % 11648000
  rw [e2]
  exact (Nat.zero_add _).trans ((Nat.one_mul _).trans (e1.trans (Nat.mod_eq_of_lt hb).symm))

/-- and the targets' gather `g` its block of the gathered targets. -/
theorem landT (ids : S32000.Idx → Elt F .i32) (tb : S128000.Idx → Elt F .f32) (fg : S4096.Idx → Elt F .f32)
    (h : InRange (F := F) (idxF i ids)) (g : Fin 32) :
    ((tbtM g).view.loc (thr d i) ↦[(tbtM g).view.set]{fullShare}
        ((tbtM g).view.write (Elt F) fg (gatherPayload gathers_S128000_S128 (tbM.view.read (Elt F) tb) (rowsT h g)) Finset.univ) : sProp 𝕄)
      = (tbtM g).view.loc (thr d i) ↦[(tbtM g).view.set]{fullShare} tbtF i ids tb := by
  refine pointsTo_congr fun x hx => ?_
  obtain ⟨y, -, rfl⟩ := Finset.mem_map.mp hx
  rw [View.write_emb_of_mem _ _ (Finset.mem_univ y)]
  have hy : (y 0).val < 128 := (y 0).isLt
  have hx0 : (((tbtM g).view.emb y) 0).val = 128 * g.val + (y 0).val := show 128 * g.val + 1 * (y 0).val = _ by omega
  have hb := (h (atIdx (32 + g.val) (y 0).val)).2 (show 32 ≤ (32 + g.val) % 64 by omega)
  have e1 : (rowsT h g (y 0)).val = BitVec.toNat (idxF (F := F) i ids (atIdx (32 + g.val) (y 0).val)) :=
    (congrArg BitVec.toNat (read_listM (idxF (F := F) i ids) ⟨32 + g.val, by omega⟩ _)).trans
      (congrArg (fun n => BitVec.toNat (idxF (F := F) i ids (atIdx (32 + g.val) n))) (rowMajor_symm_one (y 0) rfl))
  have e2 : atIdx (32 + (((tbtM g).view.emb y) 0).val / 128) (((tbtM g).view.emb y) 0).val = atIdx (32 + g.val) (y 0).val := by
    rw [hx0]
    funext a
    match a with
    | 0 => exact Fin.ext (show (32 + (128 * g.val + (y 0).val) / 128) % 64 = (32 + g.val) % 64 by omega)
    | 1 => exact Fin.ext (show (128 * g.val + (y 0).val) % 128 = (y 0).val % 128 by omega)
  refine congrArg tb (funext fun (a : Fin 1) => ?_)
  obtain rfl : a = 0 := Subsingleton.elim _ _
  refine Fin.ext ?_
  show 0 + 1 * (rowsT h g (y 0)).val = BitVec.toNat (idxF (F := F) i ids (atIdx (32 + (((tbtM g).view.emb y) 0).val / 128) (((tbtM g).view.emb y) 0).val)) % 128000
  rw [e2]
  exact (Nat.zero_add _).trans ((Nat.one_mul _).trans (e1.trans (Nat.mod_eq_of_lt hb).symm))

end Cert.KernelIdeal.Tile
-- ==== Proof.KernelIdeal.GatherRun.lean ====
/-
  The run of the tile's gathers: every one issued, then every one waited for.
-/
module

public import proofs.«01_k».proof.Proof.KernelIdeal.Gathers

@[expose] public section

noncomputable section

namespace Cert.KernelIdeal.Tile

open Cert.KernelIdeal Cert.KernelIdeal.Gen Cert.Gather
open Idealize.ShloMosaic Idealize.ShloMosaic.Transfers
open Idealize.ShloMosaic.SparseCore (S V T rows gatherPayload)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The transfers: of block `g`, row `j` of the predictions' gather, then of the targets'. -/
abbrev nT : ℕ := 32 * (128 + 128)
def place : Fin 32 × (Fin 128 ⊕ Fin 128) ≃ Fin nT := (Equiv.prodCongr (Equiv.refl _) finSumFinEquiv).trans finProdFinEquiv

theorem place_inl (g : Fin 32) (j : Fin 128) : (place (g, .inl j)).val = 256 * g.val + j.val := by
  show j.val + (128 + 128) * g.val = _
  omega
theorem place_inr (g : Fin 32) (j : Fin 128) : (place (g, .inr j)).val = 256 * g.val + 128 + j.val := by
  show (128 + j.val) + (128 + 128) * g.val = _
  omega

variable (d : Dev nD) (i : grid0.Coords) (q : PosShare TreeShare)
variable (pred : S11648000.Idx → Elt F .f32) (tb : S128000.Idx → Elt F .f32) (fg ft : S4096.Idx → Elt F .f32)
variable {fo : S64x128.Idx → Elt F .i32} (h : InRange (F := F) fo)

/-- Block `g`'s piece of the share. -/
abbrev pc (g : Fin 32) : PosShare TreeShare := pieceOf q 32 (by decide) g

abbrev doneP (g : Fin 32) (j : Fin 128) : sProp 𝕄 :=
  rowDone (thr d i) predM (gathM g) gathers_S11648000_S128 (listP g) rfl (pc q g) fullShare pred fg fo (by decide) (rowsP h g) j
abbrev doneT (g : Fin 32) (j : Fin 128) : sProp 𝕄 :=
  rowDone (thr d i) tbM (tbtM g) gathers_S128000_S128 (listT g) rfl (pc q g) fullShare tb ft fo (by decide) (rowsT h g) j

/-- What transfer `t` of the batch gives back. -/
def done (t : Fin nT) : sProp 𝕄 :=
  match place.symm t with
  | (g, .inl j) => doneP d i q pred fg h g j
  | (g, .inr j) => doneT d i q tb ft h g j

instance done_storable (t : Fin nT) : Storable (upEmb : UEmb _ 𝕄) (done d i q pred tb fg ft h t) := by
  unfold done
  split
  · exact rowDone_storable _ _ _ _ _ _ _ _ _ _ _ _ _ _
  · exact rowDone_storable _ _ _ _ _ _ _ _ _ _ _ _ _ _

theorem done_inl (g : Fin 32) (j : Fin 128) (t : Fin nT) (ht : t.val = 256 * g.val + j.val) :
    done d i q pred tb fg ft h t = doneP d i q pred fg h g j := by
  have e : place.symm t = (g, .inl j) := (Equiv.symm_apply_eq _).mpr (Fin.ext (ht.trans (place_inl g j).symm))
  unfold done; rw [e]
theorem done_inr (g : Fin 32) (j : Fin 128) (t : Fin nT) (ht : t.val = 256 * g.val + 128 + j.val) :
    done d i q pred tb fg ft h t = doneT d i q tb ft h g j := by
  have e : place.symm t = (g, .inr j) := (Equiv.symm_apply_eq _).mpr (Fin.ext (ht.trans (place_inr g j).symm))
  unfold done; rw [e]

/-- What block `g`'s two gathers take: a piece of each table, their two blocks of the results, their two lists. -/
def give (fo : S64x128.Idx → Elt F .i32) (g : Fin 32) : sProp 𝕄 :=
  iprop((predM.view.loc (thr d i) ↦[predM.view.set]{pc q g} pred) ∗ ((gathM g).view.loc (thr d i) ↦[(gathM g).view.set]{fullShare} fg)
    ∗ ((listP g).view.loc (thr d i) ↦[(listP g).view.set]{fullShare} fo)
    ∗ (tbM.view.loc (thr d i) ↦[tbM.view.set]{pc q g} tb) ∗ ((tbtM g).view.loc (thr d i) ↦[(tbtM g).view.set]{fullShare} ft)
    ∗ ((listT g).view.loc (thr d i) ↦[(listT g).view.set]{fullShare} fo))

/-- The batch with `k` transfers issued and `u` of their credit taken. -/
abbrev batch (N : ℕ) (k u : ℕ) : sProp 𝕄 :=
  Batch (countersEmb : UEmb Counters 𝕄) (thr d i) (.dma cc0_scratch6.sem) (default : HIx 1) N (done d i q pred tb fg ft h) k u

/-- A row's credit. -/
abbrev rowCredit : ℕ := 32

theorem wp_issue (g : Fin 32) {α : Type} (k : PUnit → TileProg F i α) (Q : α → sProp 𝕄) :
    iprop(give d i q pred tb fg ft fo g ∗ batch d i q pred tb fg ft h rowCredit (256 * g.val) 0)
      ⊢ iprop((batch d i q pred tb fg ft h rowCredit (256 * (g.val + 1)) 0 -∗ wp frame (wpE (defs₀ (F := F)) 𝒱₀ (thr d i) none) Set.univ (k ⟨⟩) Q)
        -∗ wp frame (wpE (defs₀ (F := F)) 𝒱₀ (thr d i) none) Set.univ (issue i g >>= k) Q) := by
  unfold issue give
  rw [bind_assoc]
  iintro ⟨⟨H1, H2, H3, H4, H5, H6⟩, HB⟩ Hk
  iapply (wp_gatherBatch (countersEmb : UEmb Counters 𝕄) 𝒱₀ (thr d i) none (defs := defs₀ (F := F)) (D := done d i q pred tb fg ft h) (hg := gathers_S11648000_S128) (default : HIx 1) rowCredit
    (256 * g.val) (by decide) (fun j => rfl) (hinP h g) (show 256 * g.val + 128 ≤ 32 * (128 + 128) by omega)
    (fun j => Entails.of_eq (done_inl d i q pred tb fg ft h g j _ rfl).symm)) $$ [H1 H2 H3 HB]
  · isplitl [H1]; · iexact H1
    isplitl [H2]; · iexact H2
    isplitl [H3]; · iexact H3
    iexact HB
  iintro HB
  iapply (wp_gatherBatch (countersEmb : UEmb Counters 𝕄) 𝒱₀ (thr d i) none (defs := defs₀ (F := F)) (D := done d i q pred tb fg ft h) (hg := gathers_S128000_S128) (default : HIx 1) rowCredit
    (256 * g.val + 128) (by decide) (fun j => rfl) (hinT h g) (show 256 * g.val + 128 + 128 ≤ 32 * (128 + 128) by omega)
    (fun j => Entails.of_eq (done_inr d i q pred tb fg ft h g j _ rfl).symm)) $$ [H4 H5 H6 HB]
  · isplitl [H4]; · iexact H4
    isplitl [H5]; · iexact H5
    isplitl [H6]; · iexact H6
    iexact HB
  iintro HB
  iapply Hk
  rw [show 256 * (g.val + 1) = 256 * g.val + 128 + S128.size gathers_S128000_S128.axis' from by show _ = 256 * g.val + 128 + 128; omega]
  iexact HB

/-- The last `n` pairs of gathers issued, into the batch the first `32 - n` began. -/
theorem wp_issues {α : Type} (k : PUnit → TileProg F i α) (Q : α → sProp 𝕄) : ∀ (n : ℕ) (hn : n ≤ 32),
    iprop(bigSep (pending (32 - n)) (give d i q pred tb fg ft fo) ∗ batch d i q pred tb fg ft h rowCredit (256 * (32 - n)) 0)
      ⊢ iprop((batch d i q pred tb fg ft h rowCredit nT 0 -∗ wp frame (wpE (defs₀ (F := F)) 𝒱₀ (thr d i) none) Set.univ (k ⟨⟩) Q)
        -∗ wp frame (wpE (defs₀ (F := F)) 𝒱₀ (thr d i) none) Set.univ (issues i n hn >>= k) Q)
  | 0, _ => by
    unfold issues
    iintro ⟨-, HB⟩ Hk
    iapply Hk
    iexact HB
  | n + 1, hn => by
    have IH := wp_issues k Q n (by omega)
    rw [show 32 - n = (⟨31 - n, by omega⟩ : Fin 32).val + 1 by show 32 - n = 31 - n + 1; omega] at IH
    rw [show 32 - (n + 1) = (⟨31 - n, by omega⟩ : Fin 32).val by show 32 - (n + 1) = 31 - n; omega, bigSep_pending_step _ _ (Fin.isLt _)]
    unfold issues
    rw [bind_assoc]
    iintro ⟨⟨Hg, Hr⟩, HB⟩ Hk
    iapply (wp_issue d i q pred tb fg ft h) $$ [Hg HB]
    · isplitl [Hg]; · iexact Hg
      iexact HB
    iintro HB
    iapply IH $$ [Hr HB]
    · isplitl [Hr]; · iexact Hr
      iexact HB
    iexact Hk

/-- The waits recorded are those before and the tile's own. -/
def Rec (W W' : Waits sig (HIx 1)) : Prop := ∀ p ∈ W', p ∈ W ∨ p.2 = none

theorem Rec.refl (W : Waits sig (HIx 1)) : Rec W W := fun _ hp => .inl hp
theorem Rec.insert {W W' : Waits sig (HIx 1)} (hW : Rec W W') (sm : SemLoc sig) : Rec W (insert (sm, (none : HIx 1)) W') := fun p hp => by
  rcases Finset.mem_insert.mp hp with rfl | hp
  · exact .inr rfl
  · exact hW p hp

theorem wp_await (g : Fin 32) {O : CellTallies nD τ sig (HIx 1)} {W : Waits sig (HIx 1)} {u : ℕ} (hu : u + 8192 ≤ rowCredit * nT)
    {α : Type} (k : PUnit → TileProg F i α) (Q : α → sProp 𝕄) :
    iprop(MayWaits (thr d i) (none : HIx 1) O ∗ batch d i q pred tb fg ft h rowCredit nT u ∗ owes (thr d i) O W)
      ⊢ iprop(((batch d i q pred tb fg ft h rowCredit nT (u + 8192)
            ∗ owes (thr d i) O (insert (SemLoc.dma cc0_scratch6.sem, (none : HIx 1)) (insert (SemLoc.dma cc0_scratch6.sem, (none : HIx 1)) W)))
          -∗ wp frame (wpE (defs₀ (F := F)) 𝒱₀ (thr d i) none) Set.univ (k ⟨⟩) Q)
        -∗ wp frame (wpE (defs₀ (F := F)) 𝒱₀ (thr d i) none) Set.univ (await i g >>= k) Q) := by
  unfold await
  rw [bind_assoc]
  iintro ⟨#Hmw, HB, HO⟩ Hk
  iapply (wp_waitBatchMulO (countersEmb : UEmb Counters 𝕄) 𝒱₀ (thr d i) none (default : HIx 1) (N := rowCredit) 128 (dstw := gathM g) rfl
    (show u + 128 * 32 ≤ 32 * (32 * (128 + 128)) by change u + 8192 ≤ 32 * (32 * (128 + 128)) at hu; omega)) $$ [HB HO]
  · isplitl [HB]; · iexact HB
    isplitl [HO]; · iexact HO
    iapply (MayWaits.elim (SemLoc.dma cc0_scratch6.sem)) $$ Hmw
  iintro ⟨HB, HO⟩
  iapply (wp_waitBatchMulO (countersEmb : UEmb Counters 𝕄) 𝒱₀ (thr d i) none (default : HIx 1) (N := rowCredit) 128 (dstw := tbtM g) rfl
    (show u + 128 * 32 + 128 * 32 ≤ 32 * (32 * (128 + 128)) by change u + 8192 ≤ 32 * (32 * (128 + 128)) at hu; omega)) $$ [HB HO]
  · isplitl [HB]; · iexact HB
    isplitl [HO]; · iexact HO
    iapply (MayWaits.elim (SemLoc.dma cc0_scratch6.sem)) $$ Hmw
  iexact Hk

/-- The last `n` pairs of waits, after those of the first `32 - n`. -/
theorem wp_awaits {O : CellTallies nD τ sig (HIx 1)} {W₀ : Waits sig (HIx 1)}
    {α : Type} (k : PUnit → TileProg F i α) (Q : α → sProp 𝕄) : ∀ (n : ℕ) (hn : n ≤ 32) (W : Waits sig (HIx 1)), Rec W₀ W →
    iprop(MayWaits (thr d i) (none : HIx 1) O ∗ batch d i q pred tb fg ft h rowCredit nT (8192 * (32 - n)) ∗ owes (thr d i) O W)
      ⊢ iprop(((batch d i q pred tb fg ft h rowCredit nT (rowCredit * nT) ∗ ∃ W', ⌜Rec W₀ W'⌝ ∗ owes (thr d i) O W')
          -∗ wp frame (wpE (defs₀ (F := F)) 𝒱₀ (thr d i) none) Set.univ (k ⟨⟩) Q)
        -∗ wp frame (wpE (defs₀ (F := F)) 𝒱₀ (thr d i) none) Set.univ (awaits i n hn >>= k) Q)
  | 0, _, W, hW => by
    unfold awaits
    rw [show 8192 * (32 - 0) = rowCredit * nT from rfl]
    iintro ⟨-, HB, HO⟩ Hk
    iapply Hk
    isplitl [HB]; · iexact HB
    iexists W; isplitr; · ipureintro; exact hW
    iexact HO
  | n + 1, hn, W, hW => by
    have hlt : 8192 * (32 - (n + 1)) + 8192 = 8192 * (32 - n) := by omega
    have hle : 8192 * (32 - (n + 1)) + 8192 ≤ rowCredit * nT := by change _ ≤ 32 * (32 * (128 + 128)); omega
    have IH := wp_awaits (O := O) k Q n (by omega) _ ((hW.insert (SemLoc.dma cc0_scratch6.sem)).insert (SemLoc.dma cc0_scratch6.sem))
    unfold awaits
    rw [bind_assoc]
    iintro ⟨#Hmw, HB, HO⟩ Hk
    iapply (wp_await d i q pred tb fg ft h _ hle) $$ [HB HO]
    · isplitr; · iexact Hmw
      isplitl [HB]; · iexact HB
      iexact HO
    rw [hlt]
    iintro ⟨HB, HO⟩
    iapply IH $$ [HB HO]
    · isplitr; · iexact Hmw
      isplitl [HB]; · iexact HB
      iexact HO
    iexact Hk

end Cert.KernelIdeal.Tile
-- ==== Proof.KernelIdeal.Ends.lean ====
/-
  The tile's first and last steps: the class numbers in, the sums and counts out.
-/
module

public import proofs.«01_k».proof.Proof.KernelIdeal.GatherRun
public import Idealize.ShloMosaic.Lib.Pipeline.Value
public import Idealize.ShloMosaic.Lib.ValueLayout

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

variable (d : Dev nD) (i : grid0.Coords)

/-! ## The offsets, in numbers -/

theorem off1_num : ∀ (a : Fin 2) (b : Fin 16), BitVec.toNat (Scalar.muli (Scalar.addi (Scalar.muli (BitVec.ofNat 32 a.val) 16#32) (BitVec.ofNat 32 b.val)) 1000#32) = 1000 * (16 * a.val + b.val) := by decide
theorem off1_eq (i : grid0.Coords) : k0_off1 i 0 = 1000 * wid i := off1_num (i 0) (i 1)
theorem off4_num : ∀ (a : Fin 2) (b : Fin 16), BitVec.toNat (Scalar.muli (Scalar.addi (Scalar.muli (BitVec.ofNat 32 a.val) 16#32) (BitVec.ofNat 32 b.val)) 16#32) = 16 * (16 * a.val + b.val) := by decide
theorem off4_eq (i : grid0.Coords) : k0_off4 i 0 = 16 * wid i := off4_num (i 0) (i 1)

/-! ## A one-dimensional buffer written in part -/

theorem upd_in {n m o : ℕ} {α : Type} (f : (Shape.mk 1 ![n]).Idx → α) (w : (Shape.mk 1 ![m]).Idx → α) (h : (Shape.mk 1 ![n]).Slices ![o] (Shape.mk 1 ![m]))
    (x : (Shape.mk 1 ![n]).Idx) (y : (Shape.mk 1 ![m]).Idx) (hy : (x 0).val = o + (y 0).val) : updateSlice f w ![o] h x = w y := by
  have hm : (y 0).val < m := (y 0).isLt
  unfold updateSlice
  refine (dif_pos (fun (a : Fin 1) => ?_)).trans (congrArg w (funext fun (a : Fin 1) => Fin.ext ?_))
  · obtain rfl : a = 0 := Subsingleton.elim _ _
    exact ⟨show o ≤ (x 0).val by omega, show (x 0).val < o + m by omega⟩
  · obtain rfl : a = 0 := Subsingleton.elim _ _
    show (x 0).val - o = (y 0).val
    omega

theorem upd_out {n m o : ℕ} {α : Type} (f : (Shape.mk 1 ![n]).Idx → α) (w : (Shape.mk 1 ![m]).Idx → α) (h : (Shape.mk 1 ![n]).Slices ![o] (Shape.mk 1 ![m]))
    (x : (Shape.mk 1 ![n]).Idx) (hx : ¬ (o ≤ (x 0).val ∧ (x 0).val < o + m)) : updateSlice f w ![o] h x = f x := by
  unfold updateSlice
  exact dif_neg fun h' => hx (h' 0)

theorem put_ids {m : ℕ} (o : ℕ) (h : ∀ a : Fin 1, (![o] : Fin 1 → ℕ) a + (![m] : Fin 1 → ℕ) a ≤ S1024.size a) (f : S1024.Idx → Elt F .i32) (w : (Shape.mk 1 ![m]).Idx → Elt F .i32) :
    (idsV.view.slice (Rect.unit (s := S1024) ![o] ![m] h)).write (Elt F) f w Finset.univ = updateSlice (s := S1024) (u := Shape.mk 1 ![m]) f w ![o] ⟨rfl, h⟩ :=
  View.write_whole_slice_unit (Val := Elt F) cc0_scratch0 ![o] ![m] h f w

theorem put_out {m : ℕ} (o : ℕ) (h : ∀ a : Fin 1, (![o] : Fin 1 → ℕ) a + (![m] : Fin 1 → ℕ) a ≤ S32.size a) (f : S32.Idx → Elt F .f32) (w : (Shape.mk 1 ![m]).Idx → Elt F .f32) :
    (outV.view.slice (Rect.unit (s := S32) ![o] ![m] h)).write (Elt F) f w Finset.univ = updateSlice (s := S32) (u := Shape.mk 1 ![m]) f w ![o] ⟨rfl, h⟩ :=
  View.write_whole_slice_unit (Val := Elt F) cc0_scratch5 ![o] ![m] h f w

theorem fetch_ids (ids : S32000.Idx → Elt F .i32) (f : S1024.Idx → Elt F .i32) :
    idsV.view.writes (Elt F) f [⟨Rect.unit (s := S1024) ![0] S1000.size inb_S1024_S1000_0, (tciM i).view.read (Elt F) ids⟩,
      ⟨Rect.unit (s := S1024) ![1008] S16.size inb_S1024_S16_1008, shapeCast S16 (broadcast S16 0#32 : IVec S16 32) shapeCasts_S16_S16⟩,
      ⟨Rect.unit (s := S1024) ![992] S16.size inb_S1024_S16_992, shapeCast S16 (broadcast S16 0#32 : IVec S16 32) shapeCasts_S16_S16⟩]
      = idsF (F := F) i ids := by
  rw [shapeCast_self, View.writes_cons, View.writes_cons, View.writes_singleton]
  refine (put_ids (m := 1000) 0 inb_S1024_S1000_0 _ _).trans (funext fun x => ?_)
  have hx : (x 0).val < 1024 := (x 0).isLt
  unfold idsF
  by_cases h : (x 0).val < 1000
  · rw [if_pos h]
    refine (upd_in (n := 1024) (m := 1000) _ _ _ x (fun a => match a with | 0 => ⟨(x 0).val, h⟩) (Nat.zero_add _).symm).trans ?_
    refine congrArg ids (funext fun (a : Fin 1) => ?_)
    obtain rfl : a = 0 := Subsingleton.elim _ _
    refine Fin.ext ?_
    have := wid_lt i
    change k0_off1 i 0 + 1 * (x 0).val = (1000 * wid i + (x 0).val) % 32000
    rw [off1_eq]
    omega
  · rw [if_neg h]
    refine (upd_out (n := 1024) (m := 1000) (o := 0) _ _ _ x (by omega)).trans ?_
    refine (congrFun (put_ids (m := 16) 1008 inb_S1024_S16_1008 _ _) x).trans ?_
    by_cases h' : 1008 ≤ (x 0).val
    · exact upd_in (n := 1024) (m := 16) (o := 1008) _ _ _ x (fun a => match a with | 0 => ⟨(x 0).val - 1008, show (x 0).val - 1008 < 16 by omega⟩) (by show _ = 1008 + ((x 0).val - 1008); omega)
    · refine (upd_out (n := 1024) (m := 16) (o := 1008) _ _ _ x (by omega)).trans ?_
      refine (congrFun (put_ids (m := 16) 992 inb_S1024_S16_992 _ _) x).trans ?_
      exact upd_in (n := 1024) (m := 16) (o := 992) _ _ _ x (fun a => match a with | 0 => ⟨(x 0).val - 992, show (x 0).val - 992 < 16 by omega⟩) (by show _ = 992 + ((x 0).val - 992); omega)

/-- The tile's own buffer of sums and counts. -/
abbrev outBoth (acc cnt : FVec F S16 .f32) (f : S32.Idx → Elt F .f32) : S32.Idx → Elt F .f32 :=
  outV.view.writes (Elt F) f [⟨Rect.unit (s := S32) ![16] S16.size inb_S32_S16_16, shapeCast S16 cnt shapeCasts_S16_S16⟩,
    ⟨Rect.unit (s := S32) ![0] S16.size inb_S32_S16_0, shapeCast S16 acc shapeCasts_S16_S16⟩]

theorem read_outSum (acc cnt : FVec F S16 .f32) (f : S32.Idx → Elt F .f32) : outSumM.view.read (Elt F) (outBoth acc cnt f) = acc := by
  unfold outBoth
  rw [shapeCast_self, shapeCast_self]
  funext y
  have hy : (y 0).val < 16 := (y 0).isLt
  rw [View.writes_cons, View.writes_singleton]
  refine (congrFun (put_out (m := 16) 16 inb_S32_S16_16 _ _) (outSumM.view.emb y)).trans ?_
  refine (upd_out (n := 32) (m := 16) (o := 16) _ _ _ _ (fun h => ?_)).trans ?_
  · have h1 : 16 ≤ 0 + 1 * (y 0).val := h.1
    omega
  refine (congrFun (put_out (m := 16) 0 inb_S32_S16_0 _ _) (outSumM.view.emb y)).trans ?_
  exact upd_in (n := 32) (m := 16) (o := 0) _ _ _ _ y (show 0 + 1 * (y 0).val = 0 + (y 0).val by omega)

theorem read_outCnt (acc cnt : FVec F S16 .f32) (f : S32.Idx → Elt F .f32) : outCntM.view.read (Elt F) (outBoth acc cnt f) = cnt := by
  unfold outBoth
  rw [shapeCast_self, shapeCast_self]
  funext y
  rw [View.writes_cons]
  refine (congrFun (put_out (m := 16) 16 inb_S32_S16_16 _ _) (outCntM.view.emb y)).trans ?_
  exact upd_in (n := 32) (m := 16) (o := 16) _ _ _ _ y (show 16 + 1 * (y 0).val = 16 + (y 0).val by omega)

/-- What is copied into the tile's sixteen places of the sums. -/
theorem out_sums (w : FVec F S16 .f32) (fs : S512.Idx → Elt F .f32) :
    ((sumM i).view.loc (thr d i) ↦[(sumM i).view.set]{fullShare} ((sumM i).view.writes (Elt F) fs [⟨Rect.whole S16, w⟩]) : sProp 𝕄)
      = (sumM i).view.loc (thr d i) ↦[(sumM i).view.set]{fullShare} fun x => w (lane (x 0).val) := by
  refine pointsTo_congr fun x hx => ?_
  obtain ⟨y, -, rfl⟩ := Finset.mem_map.mp hx
  have hy : (y 0).val < 16 := (y 0).isLt
  have e : ((sumM i).view.slice (Rect.whole S16)).emb y = (sumM i).view.emb y := congrArg (sumM i).view.emb (Rect.emb_whole_apply S16 y)
  rw [View.writes_singleton]
  refine (congrArg _ e.symm).trans ((View.write_emb_of_mem _ _ (Finset.mem_univ y)).trans (congrArg w (funext fun (a : Fin 1) => ?_)))
  obtain rfl : a = 0 := Subsingleton.elim _ _
  refine Fin.ext ?_
  change (y 0).val = (k0_off4 i 0 + 1 * (y 0).val) % 16
  rw [off4_eq]
  omega

theorem out_cnts (w : FVec F S16 .f32) (fs : S512.Idx → Elt F .f32) :
    ((cntM i).view.loc (thr d i) ↦[(cntM i).view.set]{fullShare} ((cntM i).view.writes (Elt F) fs [⟨Rect.whole S16, w⟩]) : sProp 𝕄)
      = (cntM i).view.loc (thr d i) ↦[(cntM i).view.set]{fullShare} fun x => w (lane (x 0).val) := by
  refine pointsTo_congr fun x hx => ?_
  obtain ⟨y, -, rfl⟩ := Finset.mem_map.mp hx
  have hy : (y 0).val < 16 := (y 0).isLt
  have e : ((cntM i).view.slice (Rect.whole S16)).emb y = (cntM i).view.emb y := congrArg (cntM i).view.emb (Rect.emb_whole_apply S16 y)
  rw [View.writes_singleton]
  refine (congrArg _ e.symm).trans ((View.write_emb_of_mem _ _ (Finset.mem_univ y)).trans (congrArg w (funext fun (a : Fin 1) => ?_)))
  obtain rfl : a = 0 := Subsingleton.elim _ _
  refine Fin.ext ?_
  change (y 0).val = (k0_off4 i 0 + 1 * (y 0).val) % 16
  rw [off4_eq]
  omega

/-- The fetch leaves the tile's class numbers, zeros past the thousandth. -/
theorem wp_fetch (q : PosShare TreeShare) (ids : S32000.Idx → Elt F .i32) (f : S1024.Idx → Elt F .i32)
    {O : CellTallies nD τ sig (HIx 1)} {W₀ W : Waits sig (HIx 1)} (hW : Rec W₀ W)
    {α : Type} (k : PUnit → TileProg F i α) (Q : α → sProp 𝕄) :
    iprop(Transfers.MayWaits (thr d i) (none : HIx 1) O
        ∗ ((tciV.view.loc (thr d i) ↦{q} ids) ∗ (idsV.view.loc (thr d i) ↦{fullShare} f) ∗ semVal (thr d i, .dma cc0_scoped0.sem) 0)
        ∗ owes (thr d i) O W)
      ⊢ iprop((((tciV.view.loc (thr d i) ↦{q} ids) ∗ (idsV.view.loc (thr d i) ↦{fullShare} idsF (F := F) i ids) ∗ semVal (thr d i, .dma cc0_scoped0.sem) 0)
          ∗ (∃ W', ⌜Rec W₀ W'⌝ ∗ owes (thr d i) O W')
          -∗ wp frame (wpE (defs₀ (F := F)) 𝒱₀ (thr d i) none) Set.univ (k ⟨⟩) Q)
        -∗ wp frame (wpE (defs₀ (F := F)) 𝒱₀ (thr d i) none) Set.univ (fetch i >>= k) Q) := by
  unfold fetch
  iintro ⟨#Hmw, ⟨Ht, Hi, Hs⟩, HO⟩ Hk
  sl_exec
  iapply Hk
  isplitr [HO]
  · isplitl [Ht]; · iexact Ht
    isplitl [Hi]
    · rw [show idsV.view.writes (Elt F) f (⟨Rect.unit (s := S1024) ![0] S1000.size inb_S1024_S1000_0, wp_fetch.sl.dma4 i ids⟩ :: wp_fetch.sl.Hi_2) = idsF (F := F) i ids
        from fetch_ids i ids f]
      iexact Hi
    iexact Hs
  iexists _; isplitr
  swap; · iexact HO
  ipureintro; exact hW.insert _

/-- The sums and the counts copied out to the tile's sixteen places of the two results. -/
theorem wp_output (acc cnt : FVec F S16 .f32) (f : S32.Idx → Elt F .f32) (fs fc : S512.Idx → Elt F .f32)
    {O : CellTallies nD τ sig (HIx 1)} {W₀ W : Waits sig (HIx 1)} (hW : Rec W₀ W)
    {α : Type} (k : PUnit → TileProg F i α) (Q : α → sProp 𝕄) :
    iprop(Transfers.MayWaits (thr d i) (none : HIx 1) O
        ∗ ((outV.view.loc (thr d i) ↦{fullShare} f) ∗ ((sumM i).view.loc (thr d i) ↦[(sumM i).view.set]{fullShare} fs) ∗ ((cntM i).view.loc (thr d i) ↦[(cntM i).view.set]{fullShare} fc)
          ∗ semVal (thr d i, .dma cc0_scoped1.sem) 0 ∗ semVal (thr d i, .dma cc0_scoped2.sem) 0)
        ∗ owes (thr d i) O W)
      ⊢ iprop((((∃ f', outV.view.loc (thr d i) ↦{fullShare} f') ∗ ((sumM i).view.loc (thr d i) ↦[(sumM i).view.set]{fullShare} fun x => acc (lane (x 0).val))
            ∗ ((cntM i).view.loc (thr d i) ↦[(cntM i).view.set]{fullShare} fun x => cnt (lane (x 0).val))
            ∗ semVal (thr d i, .dma cc0_scoped1.sem) 0 ∗ semVal (thr d i, .dma cc0_scoped2.sem) 0)
          ∗ (∃ W', ⌜Rec W₀ W'⌝ ∗ owes (thr d i) O W')
          -∗ wp frame (wpE (defs₀ (F := F)) 𝒱₀ (thr d i) none) Set.univ (k ⟨⟩) Q)
        -∗ wp frame (wpE (defs₀ (F := F)) 𝒱₀ (thr d i) none) Set.univ (output i acc cnt >>= k) Q) := by
  unfold output
  iintro ⟨#Hmw, ⟨Ho, Hs, Hc, Hs1, Hs2⟩, HO⟩ Hk
  sl_exec
  rw [show wp_output.sl.dma4 acc cnt f = acc from read_outSum acc cnt f, show wp_output.sl.dma4_1 acc cnt f = cnt from read_outCnt acc cnt f]
  iapply Hk
  isplitr [HO]
  · isplitl [Ho]; · iexists _; iexact Ho
    isplitl [Hs]; · iapply (Entails.of_eq (out_sums d i acc fs)) $$ Hs
    isplitl [Hc]; · iapply (Entails.of_eq (out_cnts d i cnt fc)) $$ Hc
    isplitl [Hs1]; · iexact Hs1
    iexact Hs2
  iexists _; isplitr
  swap; · iexact HO
  ipureintro; exact (hW.insert _).insert _

end Cert.KernelIdeal.Tile
-- ==== Proof.KernelIdeal.Blocks.lean ====
/-
  The 64 blocks of sixteen rows: what they leave in the mask and in the offset lists.
-/
module

public import proofs.«01_k».proof.Proof.KernelIdeal.Setup
public import Idealize.ShloMosaic.Lib.Pipeline.Value
public import Idealize.ShloMosaic.Lib.ValueLayout

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

variable (d : Dev nD) (i : grid0.Coords)

/-- The offset lists with block `j`'s entries of group `r` replaced. -/
def putF (fi : S64x128.Idx → Elt F .i32) (r : Fin 8) (j : Fin 64) (w : IVec S16 32) : S64x128.Idx → Elt F .i32 := fun x =>
  if (x 0).val / 8 = r.val ∧ jOf x = j then w (lane (x 1).val) else fi x

theorem write_idx (fi : S64x128.Idx → Elt F .i32) (r : Fin 8) (j : Fin 64) (w : IVec S16 32) :
    (idxV.view.slice (idxR r j)).write (Elt F) fi (shapeCast S1x16 w shapeCasts_S16_S1x16) Finset.univ = putF (F := F) fi r j w := by
  refine (View.write_whole_slice_unit cc0_scratch2 _ _ _ fi _).trans (funext fun x => ?_)
  have h0 : (x 0).val < 64 := (x 0).isLt
  have h1 : (x 1).val < 128 := (x 1).isLt
  have hmem : (∀ a, (![8 * r.val + j.val / 8, 16 * (j.val % 8)] : Fin 2 → ℕ) a ≤ (x a).val
      ∧ (x a).val < (![8 * r.val + j.val / 8, 16 * (j.val % 8)] : Fin 2 → ℕ) a + S1x16.size a) ↔ ((x 0).val / 8 = r.val ∧ jOf x = j) := by
    rw [Fin.forall_fin_two, Fin.ext_iff]
    change ((8 * r.val + j.val / 8 ≤ (x 0).val ∧ (x 0).val < 8 * r.val + j.val / 8 + 1) ∧ (16 * (j.val % 8) ≤ (x 1).val ∧ (x 1).val < 16 * (j.val % 8) + 16))
      ↔ ((x 0).val / 8 = r.val ∧ (x 0).val % 8 * 8 + (x 1).val / 16 = j.val)
    omega
  unfold updateSlice putF
  by_cases h : (x 0).val / 8 = r.val ∧ jOf x = j
  · rw [if_pos h]
    refine (dif_pos (hmem.mpr h)).trans ?_
    have hb := (Fin.forall_fin_two.mp (hmem.mpr h)).2
    change 16 * (j.val % 8) ≤ (x 1).val ∧ (x 1).val < 16 * (j.val % 8) + 16 at hb
    have hl : (x 1).val - 16 * (j.val % 8) = (x 1).val % 16 := by omega
    refine (congrArg _ (?_ : _ = ix2 (0 : Fin 1) (⟨(x 1).val % 16, by omega⟩ : Fin 16))).trans ((shapeCast_a_1a_apply w _ _ _).trans (congrArg w ?_))
    · funext a
      match a with
      | 0 => exact Subsingleton.elim (α := Fin 1) _ _
      | 1 => exact Fin.ext hl
    · funext a; obtain rfl : a = 0 := Subsingleton.elim _ _
      rfl
  · rw [if_neg h]
    exact dif_neg (fun h' => h (hmem.mp h'))

/-- The mask with block `j`'s sixteen entries replaced. -/
def putM (fm : S1024.Idx → Elt F .f32) (j : Fin 64) (w : FVec F S16 .f32) : S1024.Idx → Elt F .f32 := fun x =>
  if (x 0).val / 16 = j.val then w (lane (x 0).val) else fm x

theorem write_mask (fm : S1024.Idx → Elt F .f32) (j : Fin 64) (w : FVec F S16 .f32) :
    maskV.view.writes (Elt F) fm [⟨rowR j, shapeCast S16 w shapeCasts_S16_S16⟩] = putM (F := F) fm j w := by
  rw [shapeCast_self, View.writes_singleton]
  refine (View.write_whole_slice_unit cc0_scratch1 _ _ _ fm _).trans (funext fun x => ?_)
  have hmem : (∀ a, (![16 * j.val] : Fin 1 → ℕ) a ≤ (x a).val ∧ (x a).val < (![16 * j.val] : Fin 1 → ℕ) a + S16.size a) ↔ (x 0).val / 16 = j.val := by
    rw [Fin.forall_fin_one]
    change (16 * j.val ≤ (x 0).val ∧ (x 0).val < 16 * j.val + 16) ↔ _
    omega
  unfold updateSlice putM
  by_cases h : (x 0).val / 16 = j.val
  · rw [if_pos h]
    refine (dif_pos (hmem.mpr h)).trans ?_
    refine congrArg w (funext fun (a : Fin 1) => ?_)
    obtain rfl : a = 0 := Subsingleton.elim _ _
    refine Fin.ext ?_
    change (x 0).val - 16 * j.val = (x 0).val % 16
    omega
  · rw [if_neg h]
    exact dif_neg (fun h' => h (hmem.mp h'))

theorem read_ids (f : S1024.Idx → Elt F .i32) (j : Fin 64) :
    idsV.view.readAt (Elt F) (rowR j).toLoadRect f = fun l : S16.Idx => f (e1024 (16 * j.val + (l 0).val)) := by
  funext l
  refine congrArg f (funext fun (a : Fin 1) => ?_)
  obtain rfl : a = 0 := Subsingleton.elim _ _
  refine Fin.ext ?_
  have : (l 0).val < 16 := (l 0).isLt
  change 16 * j.val + 1 * (l 0).val = (16 * j.val + (l 0).val) % 1024
  omega

/-- The offset lists after block `j`. -/
def putB (ids : S32000.Idx → Elt F .i32) (fi : S64x128.Idx → Elt F .i32) (j : Fin 64) : S64x128.Idx → Elt F .i32 := fun x =>
  if jOf x = j then idxF i ids x else fi x

theorem putF_all (ids : S32000.Idx → Elt F .i32) (fi : S64x128.Idx → Elt F .i32) (j : Fin 64) :
    (let p := predOff i j (blk (F := F) i ids j); let t := tbOff i j
      putF (F := F) (putF (putF (putF (putF (putF (putF (putF fi 0 j (addi p (broadcast S16 0#32))) 4 j (addi t (broadcast S16 0#32)))
      1 j (addi p (broadcast S16 1#32))) 5 j (addi t (broadcast S16 1#32))) 2 j (addi p (broadcast S16 2#32))) 6 j (addi t (broadcast S16 2#32)))
      3 j (addi p (broadcast S16 3#32))) 7 j (addi t (broadcast S16 3#32))) = putB (F := F) i ids fi j := by
  funext x
  have h0 : (x 0).val < 64 := (x 0).isLt
  unfold putB idxF
  simp only [putF]
  by_cases h : jOf x = j
  · subst h
    simp only [and_true, if_true]
    obtain ⟨n, hn⟩ : ∃ n : Fin 8, (x 0).val / 8 = n.val := ⟨⟨(x 0).val / 8, by omega⟩, rfl⟩
    rw [hn]
    match n with
    | 0 => rfl
    | 1 => rfl
    | 2 => rfl
    | 3 => rfl
    | 4 => rfl
    | 5 => rfl
    | 6 => rfl
    | 7 => rfl
  · simp only [h, and_false, if_false]

theorem writes_idx (fi : S64x128.Idx → Elt F .i32) (j : Fin 64) (p t : IVec S16 32) :
    idxV.view.writes (Elt F) fi [⟨idxR 7 j, shapeCast S1x16 (addi t (broadcast S16 3#32)) shapeCasts_S16_S1x16⟩, ⟨idxR 3 j, shapeCast S1x16 (addi p (broadcast S16 3#32)) shapeCasts_S16_S1x16⟩,
      ⟨idxR 6 j, shapeCast S1x16 (addi t (broadcast S16 2#32)) shapeCasts_S16_S1x16⟩, ⟨idxR 2 j, shapeCast S1x16 (addi p (broadcast S16 2#32)) shapeCasts_S16_S1x16⟩,
      ⟨idxR 5 j, shapeCast S1x16 (addi t (broadcast S16 1#32)) shapeCasts_S16_S1x16⟩, ⟨idxR 1 j, shapeCast S1x16 (addi p (broadcast S16 1#32)) shapeCasts_S16_S1x16⟩,
      ⟨idxR 4 j, shapeCast S1x16 (addi t (broadcast S16 0#32)) shapeCasts_S16_S1x16⟩, ⟨idxR 0 j, shapeCast S1x16 (addi p (broadcast S16 0#32)) shapeCasts_S16_S1x16⟩]
      = putF (F := F) (putF (putF (putF (putF (putF (putF (putF fi 0 j (addi p (broadcast S16 0#32))) 4 j (addi t (broadcast S16 0#32)))
          1 j (addi p (broadcast S16 1#32))) 5 j (addi t (broadcast S16 1#32))) 2 j (addi p (broadcast S16 2#32))) 6 j (addi t (broadcast S16 2#32)))
          3 j (addi p (broadcast S16 3#32))) 7 j (addi t (broadcast S16 3#32)) := by
  rw [View.writes_cons, View.writes_cons, View.writes_cons, View.writes_cons, View.writes_cons, View.writes_cons, View.writes_cons, View.writes_cons,
    View.writes_nil, write_idx, write_idx, write_idx, write_idx, write_idx, write_idx, write_idx, write_idx]

theorem wp_block (ids : S32000.Idx → Elt F .i32) (j : Fin 64) (cnt : FVec F S16 .f32) (fm : S1024.Idx → Elt F .f32) (fi : S64x128.Idx → Elt F .i32)
    {α : Type} (k : FVec F S16 .f32 → TileProg F i α) (Q : α → sProp 𝕄) :
    iprop((idsV.view.loc (thr d i) ↦{fullShare} idsF (F := F) i ids) ∗ (maskV.view.loc (thr d i) ↦{fullShare} fm) ∗ (idxV.view.loc (thr d i) ↦{fullShare} fi))
      ⊢ iprop((((idsV.view.loc (thr d i) ↦{fullShare} idsF (F := F) i ids) ∗ (maskV.view.loc (thr d i) ↦{fullShare} putM (F := F) fm j (maskOf (blk (F := F) i ids j)))
          ∗ (idxV.view.loc (thr d i) ↦{fullShare} putB (F := F) i ids fi j))
          -∗ wp frame (wpE (defs₀ (F := F)) 𝒱₀ (thr d i) none) Set.univ (k (addf cnt (maskOf (blk (F := F) i ids j)))) Q)
        -∗ wp frame (wpE (defs₀ (F := F)) 𝒱₀ (thr d i) none) Set.univ (block i j cnt >>= k) Q) := by
  have hc : shapeCast S16 (idsV.view.readAt (Elt F) (rowR j).toLoadRect (idsF (F := F) i ids)) shapeCasts_S16_S16 = blk (F := F) i ids j :=
    (shapeCast_self _ _).trans (read_ids _ _)
  unfold block
  iintro ⟨Hids, Hm, Hi⟩ Hk
  sl_exec
  rw [show wp_block.sl.c i ids j = blk (F := F) i ids j from hc]
  iapply Hk
  isplitl [Hids]; · iexact Hids
  isplitl [Hm]
  · iapply (Entails.of_eq (congrArg (fun f => (maskV.view.loc (thr d i) ↦{fullShare} f : sProp 𝕄)) (write_mask fm j (maskOf (blk (F := F) i ids j))))) $$ Hm
  · iapply (Entails.of_eq (congrArg (fun f => (idxV.view.loc (thr d i) ↦{fullShare} f : sProp 𝕄)) ((writes_idx fi j _ _).trans (putF_all i ids fi j)))) $$ Hi

/-- The mask and the offset lists after the first `j` blocks. -/
def maskTo (ids : S32000.Idx → Elt F .i32) (fm : S1024.Idx → Elt F .f32) (j : ℕ) : S1024.Idx → Elt F .f32 := fun x =>
  if (x 0).val / 16 < j then maskF (F := F) i ids x else fm x
def idxTo (ids : S32000.Idx → Elt F .i32) (fi : S64x128.Idx → Elt F .i32) (j : ℕ) : S64x128.Idx → Elt F .i32 := fun x =>
  if (jOf x).val < j then idxF i ids x else fi x

theorem maskTo_succ (ids : S32000.Idx → Elt F .i32) (fm : S1024.Idx → Elt F .f32) (j : Fin 64) :
    putM (F := F) (maskTo i ids fm j.val) j (maskOf (blk (F := F) i ids j)) = maskTo i ids fm (j.val + 1) := by
  funext x
  unfold putM maskTo maskF
  by_cases h : (x 0).val / 16 = j.val
  · rw [if_pos h, if_pos (by omega)]
    have e : (⟨(x 0).val / 16, by have : (x 0).val < 1024 := (x 0).isLt; omega⟩ : Fin 64) = j := Fin.ext h
    rw [e]
  · rw [if_neg h]
    by_cases h' : (x 0).val / 16 < j.val
    · rw [if_pos h', if_pos (by omega)]
    · rw [if_neg h', if_neg (by omega)]

theorem idxTo_succ (ids : S32000.Idx → Elt F .i32) (fi : S64x128.Idx → Elt F .i32) (j : Fin 64) :
    putB i ids (idxTo (F := F) i ids fi j.val) j = idxTo i ids fi (j.val + 1) := by
  funext x
  unfold putB idxTo
  by_cases h : jOf x = j
  · rw [if_pos h, if_pos (by rw [h]; omega)]
  · have hne : (jOf x).val ≠ j.val := fun e => h (Fin.ext e)
    rw [if_neg h]
    by_cases h' : (jOf x).val < j.val
    · rw [if_pos h', if_pos (by omega)]
    · rw [if_neg h', if_neg (by omega)]

theorem maskTo_all (ids : S32000.Idx → Elt F .i32) (fm : S1024.Idx → Elt F .f32) : maskTo i ids fm 64 = maskF i ids :=
  funext fun x => if_pos (by have : (x 0).val < 1024 := (x 0).isLt; omega)
theorem idxTo_all (ids : S32000.Idx → Elt F .i32) (fi : S64x128.Idx → Elt F .i32) : idxTo (F := F) i ids fi 64 = idxF i ids :=
  funext fun x => if_pos (jOf x).isLt
theorem maskTo_zero (ids : S32000.Idx → Elt F .i32) (fm : S1024.Idx → Elt F .f32) : maskTo i ids fm 0 = fm :=
  funext fun _ => if_neg (Nat.not_lt_zero _)
theorem idxTo_zero (ids : S32000.Idx → Elt F .i32) (fi : S64x128.Idx → Elt F .i32) : idxTo (F := F) i ids fi 0 = fi :=
  funext fun _ => if_neg (Nat.not_lt_zero _)

theorem cntAt_succ (ids : S32000.Idx → Elt F .i32) (j : Fin 64) :
    addf (cntAt (F := F) i ids j.val) (maskOf (blk (F := F) i ids j)) = cntAt i ids (j.val + 1) := by
  have e : (⟨j.val % 64, Nat.mod_lt _ (by decide)⟩ : Fin 64) = j := Fin.ext (Nat.mod_eq_of_lt j.isLt)
  show _ = addf (cntAt i ids j.val) (maskOf (blk i ids ⟨j.val % 64, _⟩))
  rw [e]

/-- The last `n` blocks, run from what the first `64 - n` leave. -/
theorem wp_blocks (ids : S32000.Idx → Elt F .i32) (fm : S1024.Idx → Elt F .f32) (fi : S64x128.Idx → Elt F .i32)
    {α : Type} (k : FVec F S16 .f32 → TileProg F i α) (Q : α → sProp 𝕄) : ∀ (n : ℕ) (hn : n ≤ 64),
    iprop((idsV.view.loc (thr d i) ↦{fullShare} idsF (F := F) i ids) ∗ (maskV.view.loc (thr d i) ↦{fullShare} maskTo i ids fm (64 - n))
        ∗ (idxV.view.loc (thr d i) ↦{fullShare} idxTo (F := F) i ids fi (64 - n)))
      ⊢ iprop((((idsV.view.loc (thr d i) ↦{fullShare} idsF (F := F) i ids) ∗ (maskV.view.loc (thr d i) ↦{fullShare} maskF i ids)
          ∗ (idxV.view.loc (thr d i) ↦{fullShare} idxF (F := F) i ids))
          -∗ wp frame (wpE (defs₀ (F := F)) 𝒱₀ (thr d i) none) Set.univ (k (cntAt i ids 64)) Q)
        -∗ wp frame (wpE (defs₀ (F := F)) 𝒱₀ (thr d i) none) Set.univ (blocks i n hn (cntAt i ids (64 - n)) >>= k) Q)
  | 0, _ => by
    rw [Nat.sub_zero, maskTo_all, idxTo_all]
    unfold blocks
    iintro H Hk
    iapply Hk
    iexact H
  | n + 1, hn => by
    have e1 : 64 - n = (⟨63 - n, by omega⟩ : Fin 64).val + 1 := by show 64 - n = 63 - n + 1; omega
    have e2 : 64 - (n + 1) = (⟨63 - n, by omega⟩ : Fin 64).val := by show 64 - (n + 1) = 63 - n; omega
    have IH := wp_blocks ids fm fi k Q n (by omega)
    rw [e1, ← maskTo_succ, ← idxTo_succ, ← cntAt_succ] at IH
    rw [e2]
    unfold blocks
    iintro H Hk
    rw [bind_assoc]
    iapply (wp_block d i ids _ _ _ _ _ Q) $$ H
    iintro H
    iapply IH $$ H
    iexact Hk

end Cert.KernelIdeal.Tile
-- ==== Proof.KernelIdeal.Gathered.lean ====
/-
  The tile's gathers, whole: from the tables and the offset lists to the gathered entries.
-/
module

public import proofs.«01_k».proof.Proof.KernelIdeal.GatherRun

@[expose] public section

noncomputable section

namespace Cert.KernelIdeal.Tile

open Cert.KernelIdeal Cert.KernelIdeal.Gen Cert.Gather
open Idealize.ShloMosaic Idealize.ShloMosaic.Transfers
open Idealize.ShloMosaic.SparseCore (S V T rows gatherPayload)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- What every transfer of the batch gave back is every block's landed rows, the tables' pieces and the lists. -/
theorem done_all (d : Dev nD) (i : grid0.Coords) (q : PosShare TreeShare) (ids : S32000.Idx → Elt F .i32)
    (pred : S11648000.Idx → Elt F .f32) (tb : S128000.Idx → Elt F .f32) (fg ft : S4096.Idx → Elt F .f32) (h : InRange (F := F) (idxF i ids)) :
    (bigSep Finset.univ (done d i q pred tb fg ft h) : sProp 𝕄)
      ⊢ bigSep Finset.univ fun g : Fin 32 => give d i q pred tb (gathF i ids pred) (tbtF i ids tb) (idxF i ids) g := by
  rw [bigSep_univ_equiv place, bigSep_univ_prod]
  refine bigSep_mono fun g _ => ?_
  rw [bigSep_univ_sum]
  have eP : (bigSep Finset.univ fun j : Fin 128 => done d i q pred tb fg ft h (place (g, .inl j))) = bigSep Finset.univ (doneP d i q pred fg h g) :=
    congrArg _ (funext fun j => done_inl d i q pred tb fg ft h g j _ (place_inl g j))
  have eT : (bigSep Finset.univ fun j : Fin 128 => done d i q pred tb fg ft h (place (g, .inr j))) = bigSep Finset.univ (doneT d i q tb ft h g) :=
    congrArg _ (funext fun j => done_inr d i q pred tb fg ft h g j _ (place_inr g j))
  rw [eP, eT]
  unfold give
  have JP : (bigSep Finset.univ (doneP d i q pred fg h g) : sProp 𝕄) ⊢ _ :=
    gather_join (c := thr d i) (src := predM) (dst := gathM g) (hg := gathers_S11648000_S128) (offs := listP g) (hn := rfl) (q := pc q g)
      (qo := fullShare) (fs := pred) (fd := fg) (fo := idxF i ids) (ho := by decide) (r := rowsP h g)
  have JT : (bigSep Finset.univ (doneT d i q tb ft h g) : sProp 𝕄) ⊢ _ :=
    gather_join (c := thr d i) (src := tbM) (dst := tbtM g) (hg := gathers_S128000_S128) (offs := listT g) (hn := rfl) (q := pc q g)
      (qo := fullShare) (fs := tb) (fd := ft) (fo := idxF i ids) (ho := by decide) (r := rowsT h g)
  change iprop(bigSep Finset.univ (doneP d i q pred fg h g) ∗ bigSep Finset.univ (doneT d i q tb ft h g)) ⊢ _
  iintro ⟨HP, HT⟩
  ihave HP := JP $$ HP
  ihave HT := JT $$ HT
  icases HP with ⟨HP1, HP2, HP3⟩
  icases HT with ⟨HT1, HT2, HT3⟩
  isplitl [HP2]; · iexact HP2
  isplitl [HP1]; · iapply (Entails.of_eq (landP d i ids pred fg h g)) $$ HP1
  isplitl [HP3]; · iexact HP3
  isplitl [HT2]; · iexact HT2
  isplitl [HT1]; · iapply (Entails.of_eq (landT d i ids tb ft h g)) $$ HT1
  iexact HT3

/-- A family of six parts is six families. -/
theorem bigSep_six {I : Type} (s : Finset I) (A₁ A₂ A₃ A₄ A₅ A₆ : I → sProp 𝕄) :
    bigSep s (fun g => iprop(A₁ g ∗ A₂ g ∗ A₃ g ∗ A₄ g ∗ A₅ g ∗ A₆ g))
      = iprop(bigSep s A₁ ∗ bigSep s A₂ ∗ bigSep s A₃ ∗ bigSep s A₄ ∗ bigSep s A₅ ∗ bigSep s A₆) := by
  have e : ∀ X Y : I → sProp 𝕄, bigSep s (fun g => iprop(X g ∗ Y g)) = iprop(bigSep s X ∗ bigSep s Y) := fun X Y => bigSep_sep s X Y
  rw [e A₁, e A₂, e A₃, e A₄, e A₅]

/-- A whole buffer held at a share is 32 pieces of the share, each of the whole. -/
theorem pieces_of (ℓ : Loc nD τ sig) {I : Finset (Idx ℓ)} (hI : I = Finset.univ) (q : PosShare TreeShare) (f : Buf (Elt F) ℓ) :
    (ℓ ↦{q} f : sProp 𝕄) = bigSep Finset.univ fun g : Fin 32 => ℓ ↦[I]{pc q g} f := by
  subst hI
  exact pointsTo_piecesOf _ f (by decide) q

/-- The tables, the results and the lists are what the 32 blocks take. -/
theorem give_all (d : Dev nD) (i : grid0.Coords) (q : PosShare TreeShare) (pred : S11648000.Idx → Elt F .f32) (tb : S128000.Idx → Elt F .f32)
    (fg ft : S4096.Idx → Elt F .f32) (fo : S64x128.Idx → Elt F .i32) :
    (bigSep Finset.univ (give d i q pred tb fg ft fo) : sProp 𝕄)
      = iprop((predV.view.loc (thr d i) ↦{q} pred) ∗ (gathV.view.loc (thr d i) ↦{fullShare} fg)
          ∗ (bigSep Finset.univ fun g : Fin 32 => (listP g).view.loc (thr d i) ↦[(listP g).view.set]{fullShare} fo)
          ∗ (tbV.view.loc (thr d i) ↦{q} tb) ∗ (tbtV.view.loc (thr d i) ↦{fullShare} ft)
          ∗ (bigSep Finset.univ fun g : Fin 32 => (listT g).view.loc (thr d i) ↦[(listT g).view.set]{fullShare} fo)) := by
  have e1 : (predV.view.loc (thr d i) ↦{q} pred : sProp 𝕄) = bigSep Finset.univ fun g : Fin 32 => predM.view.loc (thr d i) ↦[predM.view.set]{pc q g} pred :=
    pieces_of (predM.view.loc (thr d i)) set_predM q pred
  have e2 : (tbV.view.loc (thr d i) ↦{q} tb : sProp 𝕄) = bigSep Finset.univ fun g : Fin 32 => tbM.view.loc (thr d i) ↦[tbM.view.set]{pc q g} tb :=
    pieces_of (tbM.view.loc (thr d i)) set_tbM q tb
  unfold give
  rw [bigSep_six, e1, e2, gath_blocks, tbt_blocks]

/-- The gathers, issued and waited for, leave every entry its list names, and give the tables, the lists and the semaphore back. -/
theorem wp_gathers (d : Dev nD) (i : grid0.Coords) (q : PosShare TreeShare) (ids : S32000.Idx → Elt F .i32)
    (pred : S11648000.Idx → Elt F .f32) (tb : S128000.Idx → Elt F .f32) (fg ft : S4096.Idx → Elt F .f32) (h : InRange (F := F) (idxF i ids))
    {O : CellTallies nD τ sig (HIx 1)} {W₀ W : Waits sig (HIx 1)} (hW : Rec W₀ W)
    {α : Type} (k : PUnit → TileProg F i α) (Q : α → sProp 𝕄) :
    iprop(MayWaits (thr d i) (none : HIx 1) O
        ∗ ((predV.view.loc (thr d i) ↦{q} pred) ∗ (tbV.view.loc (thr d i) ↦{q} tb) ∗ (gathV.view.loc (thr d i) ↦{fullShare} fg)
          ∗ (tbtV.view.loc (thr d i) ↦{fullShare} ft) ∗ (idxV.view.loc (thr d i) ↦{fullShare} idxF i ids)
          ∗ semVal (thr d i, .dma cc0_scratch6.sem) 0)
        ∗ owes (thr d i) O W)
      ⊢ iprop((((predV.view.loc (thr d i) ↦{q} pred) ∗ (tbV.view.loc (thr d i) ↦{q} tb) ∗ (gathV.view.loc (thr d i) ↦{fullShare} gathF i ids pred)
          ∗ (tbtV.view.loc (thr d i) ↦{fullShare} tbtF i ids tb) ∗ (idxV.view.loc (thr d i) ↦{fullShare} idxF i ids)
          ∗ semVal (thr d i, .dma cc0_scratch6.sem) 0)
          ∗ (∃ W', ⌜Rec W₀ W'⌝ ∗ owes (thr d i) O W')
          -∗ wp frame (wpE (defs₀ (F := F)) 𝒱₀ (thr d i) none) Set.univ (k ⟨⟩) Q)
        -∗ wp frame (wpE (defs₀ (F := F)) 𝒱₀ (thr d i) none) Set.univ (issues i 32 (le_refl _) >>= fun _ => awaits i 32 (le_refl _) >>= k) Q) := by
  rw [list_rows d i (idxF i ids)]
  iintro ⟨#Hmw, ⟨Hp, Ht, Hg, Htt, ⟨HlP, HlT⟩, Hs⟩, HO⟩ Hk
  imod (batch_alloc' (countersEmb : UEmb Counters 𝕄) (thr d i) (default : HIx 1) rowCredit (done d i q pred tb fg ft h) (E := Set.univ)) $$ Hs with HB
  ihave HG := Entails.of_eq (give_all d i q pred tb fg ft (idxF i ids)).symm $$ [Hp Ht Hg Htt HlP HlT]
  · isplitl [Hp]; · iexact Hp
    isplitl [Hg]; · iexact Hg
    isplitl [HlP]; · iexact HlP
    isplitl [Ht]; · iexact Ht
    isplitl [Htt]; · iexact Htt
    iexact HlT
  iapply (wp_issues d i q pred tb fg ft h _ _ 32 (le_refl _)) $$ [HG HB]
  · isplitl [HG]
    · rw [show 32 - 32 = 0 from rfl, pending_zero]; iexact HG
    iexact HB
  iintro HB
  iapply (wp_awaits d i q pred tb fg ft h k Q 32 (le_refl _) W hW) $$ [HB HO]
  · isplitr; · iexact Hmw
    isplitl [HB]; · iexact HB
    iexact HO
  iintro ⟨HB, HO⟩
  imod (batch_collect' (countersEmb : UEmb Counters 𝕄) (thr d i) (show 0 < rowCredit by decide)) $$ HB with ⟨HD, Hs⟩
  ihave HG := done_all d i q ids pred tb fg ft h $$ HD
  ihave HG := Entails.of_eq (give_all d i q pred tb (gathF i ids pred) (tbtF i ids tb) (idxF i ids)) $$ HG
  icases HG with ⟨Hp, Hg, HlP, Ht, Htt, HlT⟩
  iapply Hk
  isplitr [HO]
  · isplitl [Hp]; · iexact Hp
    isplitl [Ht]; · iexact Ht
    isplitl [Hg]; · iexact Hg
    isplitl [Htt]; · iexact Htt
    isplitl [HlP HlT]
    · isplitl [HlP]; · iexact HlP
      iexact HlT
    iexact Hs
  iexact HO

end Cert.KernelIdeal.Tile
-- ==== Proof.KernelIdeal.Loop.lean ====
/-
  The tile's loop over its rows, sixteen at a time.
-/
module

public import proofs.«01_k».proof.Proof.KernelIdeal.GatherRun
public import Idealize.ShloMosaic.Lib.Pipeline.Value
public import Idealize.ShloMosaic.Lib.ValueLayout

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

variable (d : Dev nD) (i : grid0.Coords)

/-! ## Where the loop's loads begin -/

theorem trips_eq : k0_t1_loop.trips = 64 := by decide

theorem off2_eq : ∀ t : Fin k0_t1_loop.trips, k0_off2 t 0 = 16 * t.val := by decide
theorem off3_eq0 : ∀ t : Fin k0_t1_loop.trips, k0_off3 t 0#32 0 = 16 * t.val + 0 := by decide
theorem off3_eq1 : ∀ t : Fin k0_t1_loop.trips, k0_off3 t 1024#32 0 = 16 * t.val + 1024 := by decide
theorem off3_eq2 : ∀ t : Fin k0_t1_loop.trips, k0_off3 t 2048#32 0 = 16 * t.val + 2048 := by decide
theorem off3_eq3 : ∀ t : Fin k0_t1_loop.trips, k0_off3 t 3072#32 0 = 16 * t.val + 3072 := by decide

theorem read_mask (f : S1024.Idx → Elt F .f32) (o : Fin 1 → ℕ) (h : ∀ a, o a + S16.size a ≤ S1024.size a) (n : ℕ) (ho : o 0 = n) :
    maskV.view.readAt (Elt F) (Rect.unit (s := S1024) o S16.size h).toLoadRect f = from1024 f n := by
  have h0 : o 0 + 16 ≤ 1024 := h 0
  funext l
  refine congrArg f (funext fun (a : Fin 1) => ?_)
  obtain rfl : a = 0 := Subsingleton.elim _ _
  refine Fin.ext ?_
  have : (l 0).val < 16 := (l 0).isLt
  change o 0 + 1 * (l 0).val = (n + (l 0).val) % 1024
  omega

theorem read_gath (f : S4096.Idx → Elt F .f32) (o : Fin 1 → ℕ) (h : ∀ a, o a + S16.size a ≤ S4096.size a) (n : ℕ) (ho : o 0 = n) :
    gathV.view.readAt (Elt F) (Rect.unit (s := S4096) o S16.size h).toLoadRect f = from4096 f n := by
  have h0 : o 0 + 16 ≤ 4096 := h 0
  funext l
  refine congrArg f (funext fun (a : Fin 1) => ?_)
  obtain rfl : a = 0 := Subsingleton.elim _ _
  refine Fin.ext ?_
  have : (l 0).val < 16 := (l 0).isLt
  change o 0 + 1 * (l 0).val = (n + (l 0).val) % 4096
  omega

theorem read_tbt (f : S4096.Idx → Elt F .f32) (o : Fin 1 → ℕ) (h : ∀ a, o a + S16.size a ≤ S4096.size a) (n : ℕ) (ho : o 0 = n) :
    tbtV.view.readAt (Elt F) (Rect.unit (s := S4096) o S16.size h).toLoadRect f = from4096 f n :=
  read_gath f o h n ho

/-! ## One pass, and all of them -/

variable (ids : S32000.Idx → Elt F .i32) (tb : S128000.Idx → Elt F .f32) (pred : S11648000.Idx → Elt F .f32)

/-- The three buffers the loop reads. -/
def loopBufs : sProp 𝕄 :=
  iprop((maskV.view.loc (thr d i) ↦{fullShare} maskF (F := F) i ids) ∗ (gathV.view.loc (thr d i) ↦{fullShare} gathF (F := F) i ids pred)
    ∗ (tbtV.view.loc (thr d i) ↦{fullShare} tbtF (F := F) i ids tb))

/-- A pass leaves the buffers and returns the sums with its sixteen rows' terms added. -/
theorem wp_term (t : Fin k0_t1_loop.trips) (acc : FVec F S16 .f32) (Q : FVec F S16 .f32 → sProp 𝕄) :
    loopBufs d i ids tb pred
      ⊢ iprop((loopBufs d i ids tb pred -∗ Q (accStep i ids tb pred acc t.val))
        -∗ wp frame (wpE (defs₀ (F := F)) 𝒱₀ (thr d i) none) Set.univ (term i t acc) Q) := by
  have e : addTerm (addTerm (addTerm (addTerm acc
        (maskV.view.readAt (Elt F) (Rect.unit (s := S1024) (k0_off2 t) S16.size (k0_off2_inb t)).toLoadRect (maskF (F := F) i ids))
        (tbtV.view.readAt (Elt F) (Rect.unit (s := S4096) (k0_off3 t 0#32) S16.size (k0_off3_inb t 0)).toLoadRect (tbtF (F := F) i ids tb))
        (gathV.view.readAt (Elt F) (Rect.unit (s := S4096) (k0_off3 t 0#32) S16.size (k0_off3_inb t 0)).toLoadRect (gathF (F := F) i ids pred)))
        (maskV.view.readAt (Elt F) (Rect.unit (s := S1024) (k0_off2 t) S16.size (k0_off2_inb t)).toLoadRect (maskF (F := F) i ids))
        (tbtV.view.readAt (Elt F) (Rect.unit (s := S4096) (k0_off3 t 1024#32) S16.size (k0_off3_inb t 1)).toLoadRect (tbtF (F := F) i ids tb))
        (gathV.view.readAt (Elt F) (Rect.unit (s := S4096) (k0_off3 t 1024#32) S16.size (k0_off3_inb t 1)).toLoadRect (gathF (F := F) i ids pred)))
        (maskV.view.readAt (Elt F) (Rect.unit (s := S1024) (k0_off2 t) S16.size (k0_off2_inb t)).toLoadRect (maskF (F := F) i ids))
        (tbtV.view.readAt (Elt F) (Rect.unit (s := S4096) (k0_off3 t 2048#32) S16.size (k0_off3_inb t 2)).toLoadRect (tbtF (F := F) i ids tb))
        (gathV.view.readAt (Elt F) (Rect.unit (s := S4096) (k0_off3 t 2048#32) S16.size (k0_off3_inb t 2)).toLoadRect (gathF (F := F) i ids pred)))
        (maskV.view.readAt (Elt F) (Rect.unit (s := S1024) (k0_off2 t) S16.size (k0_off2_inb t)).toLoadRect (maskF (F := F) i ids))
        (tbtV.view.readAt (Elt F) (Rect.unit (s := S4096) (k0_off3 t 3072#32) S16.size (k0_off3_inb t 3)).toLoadRect (tbtF (F := F) i ids tb))
        (gathV.view.readAt (Elt F) (Rect.unit (s := S4096) (k0_off3 t 3072#32) S16.size (k0_off3_inb t 3)).toLoadRect (gathF (F := F) i ids pred))
      = accStep (F := F) i ids tb pred acc t.val := by
    rw [read_mask _ _ _ _ (off2_eq t), read_tbt _ _ _ _ (off3_eq0 t), read_tbt _ _ _ _ (off3_eq1 t), read_tbt _ _ _ _ (off3_eq2 t), read_tbt _ _ _ _ (off3_eq3 t),
      read_gath _ _ _ _ (off3_eq0 t), read_gath _ _ _ _ (off3_eq1 t), read_gath _ _ _ _ (off3_eq2 t), read_gath _ _ _ _ (off3_eq3 t)]
    rfl
  unfold loopBufs term
  iintro ⟨Hm, Hg, Ht⟩ Hk
  sl_exec
  sl_step
  rw [← e]
  iapply Hk
  isplitl [Hm]; · iexact Hm
  isplitl [Hg]; · iexact Hg
  iexact Ht

/-- The loop leaves the buffers and returns the sums after its last pass. -/
theorem wp_loop {α : Type} (k : FVec F S16 .f32 → TileProg F i α) (Q : α → sProp 𝕄) :
    loopBufs d i ids tb pred
      ⊢ iprop((loopBufs d i ids tb pred -∗ wp frame (wpE (defs₀ (F := F)) 𝒱₀ (thr d i) none) Set.univ (k (accAt i ids tb pred 64)) Q)
        -∗ wp frame (wpE (defs₀ (F := F)) 𝒱₀ (thr d i) none) Set.univ (Scf.Loop.for k0_t1_loop k0_t1_ok zeros (fun t acc => term i t acc) >>= k) Q) := by
  have hfor := Scf.wp_for_bind frame (wpE (defs₀ (F := F)) 𝒱₀ (thr d i) none) Set.univ _ _ _ k0_t1_ok (zeros (F := F)) (fun t acc => term i t acc)
    (fun t acc => iprop(⌜acc = accAt (F := F) i ids tb pred t⌝ ∗ loopBufs d i ids tb pred)) (fun t acc => by
      iintro ⟨%h, H⟩
      subst h
      iapply (wp_term d i ids tb pred t _ _) $$ H
      iintro H
      isplitr; · ipureintro; rfl
      iexact H) (kk := k) (Q := Q)
  iintro H Hk
  iapply hfor $$ [H]
  · isplitr; · ipureintro; rfl
    iexact H
  iintro %acc ⟨%h, H⟩
  subst h
  iapply Hk $$ H

end Cert.KernelIdeal.Tile
-- ==== Proof.KernelIdeal.BodyK.lean ====
/-
  The printed body is the one the proof runs. The printed body is read against a continuation-passing form of the same
  sequence, which unfolds one memory operation at a time; that form is the body's own pieces bound in order.
-/
module

public import proofs.«01_k».proof.Proof.KernelIdeal.Body

@[expose] public section

noncomputable section

namespace Cert.KernelIdeal.Tile

open Cert.KernelIdeal Cert.KernelIdeal.Gen
open Idealize.ShloMosaic Idealize.SL.Sem

variable {F : FTy → Type} [FloatOps F]
variable (i : grid0.Coords)

/-- `putIdx`, then `k`. -/
def putIdxK (j : Fin 64) (r : Fin 8) (v : IVec S16 32) (b : BitVec 32) (k : TileProg F i PUnit) : TileProg F i PUnit :=
  Prog.lift (.load idxV (idxR r j).toLoadRect (View.loadsAt_vmem h_S1x16)) >>= fun (_v : Vec F S1x16 .i32) =>
  Prog.lift (.store idxV (idxR r j) (shapeCast S1x16 (addi v (broadcast S16 b)) shapeCasts_S16_S1x16) Finset.univ (View.stores_vmem_bits_univ h_S1x16 rfl) (.inl rfl)) >>= fun _ => k

theorem putIdxK_eq (j : Fin 64) (r : Fin 8) (v : IVec S16 32) (b : BitVec 32) (k : TileProg F i PUnit) :
    putIdxK i j r v b k = putIdx i j r v b >>= fun _ => k := rfl

/-- `block`, then `k`. -/
def blockK (j : Fin 64) (cnt : FVec F S16 .f32) (k : FVec F S16 .f32 → TileProg F i PUnit) : TileProg F i PUnit :=
  Prog.lift (.load idsV (rowR j).toLoadRect (View.loadsAt_vmem h_S16)) >>= fun (v : Vec F S16 .i32) =>
  Prog.lift (.load maskV (rowR j).toLoadRect (View.loadsAt_vmem h_S16)) >>= fun (_v : Vec F S16 .f32) =>
  Prog.lift (.store maskV (rowR j) (shapeCast S16 (maskOf (F := F) (shapeCast S16 v shapeCasts_S16_S16)) shapeCasts_S16_S16) Finset.univ (View.stores_vmem_bits_univ h_S16 rfl) (.inl rfl)) >>= fun _ =>
  putIdxK i j 0 (predOff i j (shapeCast S16 v shapeCasts_S16_S16)) 0#32 <|
  putIdxK i j 4 (tbOff i j) 0#32 <|
  putIdxK i j 1 (predOff i j (shapeCast S16 v shapeCasts_S16_S16)) 1#32 <|
  putIdxK i j 5 (tbOff i j) 1#32 <|
  putIdxK i j 2 (predOff i j (shapeCast S16 v shapeCasts_S16_S16)) 2#32 <|
  putIdxK i j 6 (tbOff i j) 2#32 <|
  putIdxK i j 3 (predOff i j (shapeCast S16 v shapeCasts_S16_S16)) 3#32 <|
  putIdxK i j 7 (tbOff i j) 3#32 <|
  k (addf cnt (maskOf (shapeCast S16 v shapeCasts_S16_S16)))

theorem blockK_eq (j : Fin 64) (cnt : FVec F S16 .f32) (k : FVec F S16 .f32 → TileProg F i PUnit) :
    blockK i j cnt k = block i j cnt >>= k := rfl

/-- `blocks`, then `k`. -/
def blocksK : (n : ℕ) → n ≤ 64 → FVec F S16 .f32 → (FVec F S16 .f32 → TileProg F i PUnit) → TileProg F i PUnit
  | 0, _, cnt, k => k cnt
  | n + 1, h, cnt, k => blockK i ⟨63 - n, by omega⟩ cnt fun cnt => blocksK n (by omega) cnt k

theorem blocksK_eq (k : FVec F S16 .f32 → TileProg F i PUnit) : ∀ (n : ℕ) (h : n ≤ 64) (cnt : FVec F S16 .f32),
    blocksK i n h cnt k = blocks i n h cnt >>= k
  | 0, _, _ => rfl
  | n + 1, h, cnt => by
    unfold blocksK blocks
    rw [blockK_eq, bind_assoc]
    exact congrArg _ (funext fun cnt => blocksK_eq k n _ cnt)

/-- `issues`, then `k`. -/
def issuesK (k : TileProg F i PUnit) : (n : ℕ) → n ≤ 32 → TileProg F i PUnit
  | 0, _ => k
  | n + 1, h =>
    SparseCore.enqueueIndirectGather rfl predM (gathM ⟨31 - n, by omega⟩) gathers_S11648000_S128 (listM ⟨31 - n, by omega⟩) rfl cc0_scratch6.sem (View.wordExact_bits rfl) rfl (Or.inl rfl) >>= fun _ =>
    SparseCore.enqueueIndirectGather rfl tbM (tbtM ⟨31 - n, by omega⟩) gathers_S128000_S128 (listM ⟨32 + (31 - n), by omega⟩) rfl cc0_scratch6.sem (View.wordExact_bits rfl) rfl (Or.inl rfl) >>= fun _ =>
    issuesK k n (by omega)

theorem issuesK_eq (k : TileProg F i PUnit) : ∀ (n : ℕ) (h : n ≤ 32), issuesK i k n h = issues i n h >>= fun _ => k
  | 0, _ => rfl
  | n + 1, h => by
    unfold issuesK issues issue
    rw [issuesK_eq k n, bind_assoc, bind_assoc]

/-- `awaits`, then `k`. -/
def awaitsK (k : TileProg F i PUnit) : (n : ℕ) → n ≤ 32 → TileProg F i PUnit
  | 0, _ => k
  | n + 1, h =>
    SparseCore.waitIndirectGather cc0_scratch6.sem predM (gathM ⟨31 - n, by omega⟩) (View.wordExact_bits rfl) (View.wordExact_bits rfl) >>= fun _ =>
    SparseCore.waitIndirectGather cc0_scratch6.sem tbM (tbtM ⟨31 - n, by omega⟩) (View.wordExact_bits rfl) (View.wordExact_bits rfl) >>= fun _ =>
    awaitsK k n (by omega)

theorem awaitsK_eq (k : TileProg F i PUnit) : ∀ (n : ℕ) (h : n ≤ 32), awaitsK i k n h = awaits i n h >>= fun _ => k
  | 0, _ => rfl
  | n + 1, h => by
    unfold awaitsK awaits await
    rw [awaitsK_eq k n, bind_assoc, bind_assoc]

/-- `fetch`, then `k`. -/
def fetchK (k : TileProg F i PUnit) : TileProg F i PUnit :=
  Prog.lift (.load idsV (Rect.unit (s := S1024) ![992] S16.size inb_S1024_S16_992).toLoadRect (View.loadsAt_vmem h_S16)) >>= fun (_v : Vec F S16 .i32) =>
  Prog.lift (.store idsV (Rect.unit (s := S1024) ![992] S16.size inb_S1024_S16_992) (shapeCast S16 (broadcast S16 0#32 : IVec S16 32) shapeCasts_S16_S16) Finset.univ (View.stores_vmem_bits_univ h_S16 rfl) (.inl rfl)) >>= fun _ =>
  Prog.lift (.load idsV (Rect.unit (s := S1024) ![1008] S16.size inb_S1024_S16_1008).toLoadRect (View.loadsAt_vmem h_S16)) >>= fun (_v : Vec F S16 .i32) =>
  Prog.lift (.store idsV (Rect.unit (s := S1024) ![1008] S16.size inb_S1024_S16_1008) (shapeCast S16 (broadcast S16 0#32 : IVec S16 32) shapeCasts_S16_S16) Finset.univ (View.stores_vmem_bits_univ h_S16 rfl) (.inl rfl)) >>= fun _ =>
  Prog.lift (.enqueueDma (tciM i) (.here idsM) (.dma cc0_scoped0.sem) (View.wordExact_bits rfl) (View.wordExact_bits rfl) ⟨Or.inl rfl, trivial⟩) >>= fun _ =>
  Prog.lift (.waitDma2 cc0_scoped0.sem (tciM i) idsM (View.wordExact_bits rfl) (View.wordExact_bits rfl)) >>= fun _ => k

theorem fetchK_eq (k : TileProg F i PUnit) : fetchK i k = fetch i >>= fun _ => k := rfl

/-- Sums and counts stored in the tile's buffer. -/
def keep (acc cnt : FVec F S16 .f32) : TileProg F i PUnit := do
  let _v : Vec F S16 .f32 ← Prog.lift (.load outV (Rect.unit (s := S32) ![0] S16.size inb_S32_S16_0).toLoadRect (View.loadsAt_vmem h_S16))
  Prog.lift (.store outV (Rect.unit (s := S32) ![0] S16.size inb_S32_S16_0) (shapeCast S16 acc shapeCasts_S16_S16) Finset.univ (View.stores_vmem_bits_univ h_S16 rfl) (.inl rfl))
  let _v : Vec F S16 .f32 ← Prog.lift (.load outV (Rect.unit (s := S32) ![16] S16.size inb_S32_S16_16).toLoadRect (View.loadsAt_vmem h_S16))
  Prog.lift (.store outV (Rect.unit (s := S32) ![16] S16.size inb_S32_S16_16) (shapeCast S16 cnt shapeCasts_S16_S16) Finset.univ (View.stores_vmem_bits_univ h_S16 rfl) (.inl rfl))

/-- They copied out. -/
def send : TileProg F i PUnit := do
  Prog.lift (.enqueueDma outSumM (.here (sumM i)) (.dma cc0_scoped1.sem) (View.wordExact_bits rfl) (View.wordExact_bits rfl) ⟨Or.inl rfl, trivial⟩)
  Prog.lift (.waitDma2 cc0_scoped1.sem outSumM (sumM i) (View.wordExact_bits rfl) (View.wordExact_bits rfl))
  Prog.lift (.enqueueDma outCntM (.here (cntM i)) (.dma cc0_scoped2.sem) (View.wordExact_bits rfl) (View.wordExact_bits rfl) ⟨Or.inl rfl, trivial⟩)
  Prog.lift (.waitDma2 cc0_scoped2.sem outCntM (cntM i) (View.wordExact_bits rfl) (View.wordExact_bits rfl))

theorem output_eq (acc cnt : FVec F S16 .f32) : output i acc cnt = keep i acc cnt >>= fun _ => send i := rfl

/-- The body, one operation at a time up to the loop. -/
def bodyK : TileProg F i PUnit :=
  fetchK i <| blocksK i 64 le_rfl zeros fun cnt => issuesK i (awaitsK i
    ((Scf.Loop.for k0_t1_loop k0_t1_ok zeros (fun t acc => term i t acc) >>= fun acc => keep i acc cnt) >>= fun _ => send i >>= fun _ => pure ⟨⟩) 32 le_rfl) 32 le_rfl

theorem bodyK_eq : bodyK (F := F) i = body i := by
  unfold bodyK body
  rw [fetchK_eq]
  refine congrArg _ (funext fun _ => ?_)
  rw [blocksK_eq]
  refine congrArg _ (funext fun cnt => ?_)
  rw [issuesK_eq]
  refine congrArg _ (funext fun _ => ?_)
  rw [awaitsK_eq, bind_assoc]
  refine congrArg _ (funext fun _ => congrArg _ (funext fun acc => ?_))
  rw [output_eq, bind_assoc]

end Cert.KernelIdeal.Tile
-- ==== Proof.KernelIdeal.BodyEq.lean ====
/-
  The printed body is the one the proof runs. The printed body is read against a continuation-passing form of the same
  sequence, which unfolds one memory operation at a time; that form is the body's own pieces bound in order.
-/
module

public import proofs.«01_k».proof.Proof.KernelIdeal.BodyK

@[expose] public section

noncomputable section

namespace Cert.KernelIdeal.Tile

open Cert.KernelIdeal Cert.KernelIdeal.Gen
open Idealize.ShloMosaic Idealize.SL.Sem

variable {F : FTy → Type} [FloatOps F]
variable (i : grid0.Coords)

set_option maxRecDepth 1000000 in
set_option maxHeartbeats 0 in
/-- The printed body is this one. -/
theorem body_eqK :
    cc0__sc_body (F := F) i tciV (Memref.isWhole_whole _) tbV (Memref.isWhole_whole _) predV (Memref.isWhole_whole _) sumV (Memref.isWhole_whole _)
      cntV (Memref.isWhole_whole _) idsV (Memref.isWhole_whole _) maskV (Memref.isWhole_whole _) idxV (Memref.isWhole_whole _) gathV (Memref.isWhole_whole _)
      tbtV (Memref.isWhole_whole _) outV (Memref.isWhole_whole _) cc0_scratch6 cc0_scoped0 cc0_scoped1 cc0_scoped2 = bodyK i := rfl

/-- The printed body is the sequence of its pieces. -/
theorem body_eq :
    cc0__sc_body (F := F) i tciV (Memref.isWhole_whole _) tbV (Memref.isWhole_whole _) predV (Memref.isWhole_whole _) sumV (Memref.isWhole_whole _)
      cntV (Memref.isWhole_whole _) idsV (Memref.isWhole_whole _) maskV (Memref.isWhole_whole _) idxV (Memref.isWhole_whole _) gathV (Memref.isWhole_whole _)
      tbtV (Memref.isWhole_whole _) outV (Memref.isWhole_whole _) cc0_scratch6 cc0_scoped0 cc0_scoped1 cc0_scoped2 = body i :=
  (body_eqK i).trans (bodyK_eq i)

end Cert.KernelIdeal.Tile
-- ==== Proof.KernelIdeal.Task.lean ====
/-
  One tile's task from beginning to end: from a share of the three flat arrays and its sixteen places of each result, the
  tile leaves its partial sums and its counts there and hands the rest back.
-/
module

public import proofs.«01_k».proof.Proof.KernelIdeal.Ends
public import proofs.«01_k».proof.Proof.KernelIdeal.Blocks
public import proofs.«01_k».proof.Proof.KernelIdeal.Gathered
public import proofs.«01_k».proof.Proof.KernelIdeal.Loop
public import proofs.«01_k».proof.Proof.KernelIdeal.BodyEq

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords) (q : PosShare TreeShare) (ids : S32000.Idx → Elt F .i32) (tb : S128000.Idx → Elt F .f32) (pred : S11648000.Idx → Elt F .f32)

/-- A tile's share of the three flat arrays, and its places of the two results at `fs` and `fc`. -/
abbrev held (fs fc : S512.Idx → Elt F .f32) : sProp 𝕄 :=
  iprop((tciV.view.loc (thr d i) ↦{q} ids) ∗ (tbV.view.loc (thr d i) ↦{q} tb) ∗ (predV.view.loc (thr d i) ↦{q} pred)
    ∗ ((sumM i).view.loc (thr d i) ↦[(sumM i).view.set]{fullShare} fs) ∗ ((cntM i).view.loc (thr d i) ↦[(cntM i).view.set]{fullShare} fc))

/-- The tile's own buffers, each at some contents. -/
abbrev scratch : sProp 𝕄 :=
  iprop((∃ f, idsV.view.loc (thr d i) ↦{fullShare} f) ∗ (∃ f, maskV.view.loc (thr d i) ↦{fullShare} f) ∗ (∃ f, idxV.view.loc (thr d i) ↦{fullShare} f)
    ∗ (∃ f, gathV.view.loc (thr d i) ↦{fullShare} f) ∗ (∃ f, tbtV.view.loc (thr d i) ↦{fullShare} f) ∗ (∃ f, outV.view.loc (thr d i) ↦{fullShare} f))

/-- Its four semaphores at zero. -/
abbrev zeroSems : sProp 𝕄 :=
  iprop(semVal (thr d i, .dma cc0_scratch6.sem) 0 ∗ semVal (thr d i, .dma cc0_scoped0.sem) 0 ∗ semVal (thr d i, .dma cc0_scoped1.sem) 0
    ∗ semVal (thr d i, .dma cc0_scoped2.sem) 0)

theorem blocks_run (fm : S1024.Idx → Elt F .f32) (fi : S64x128.Idx → Elt F .i32)
    {α : Type} (k : FVec F S16 .f32 → TileProg F i α) (Q : α → sProp 𝕄) :
    iprop((idsV.view.loc (thr d i) ↦{fullShare} idsF (F := F) i ids) ∗ (maskV.view.loc (thr d i) ↦{fullShare} fm) ∗ (idxV.view.loc (thr d i) ↦{fullShare} fi))
      ⊢ iprop((((idsV.view.loc (thr d i) ↦{fullShare} idsF (F := F) i ids) ∗ (maskV.view.loc (thr d i) ↦{fullShare} maskF i ids)
          ∗ (idxV.view.loc (thr d i) ↦{fullShare} idxF (F := F) i ids))
          -∗ wp frame (wpE (defs₀ (F := F)) 𝒱₀ (thr d i) none) Set.univ (k (cntAt i ids 64)) Q)
        -∗ wp frame (wpE (defs₀ (F := F)) 𝒱₀ (thr d i) none) Set.univ (blocks i 64 le_rfl zeros >>= k) Q) := by
  have h := wp_blocks d i ids fm fi k Q 64 le_rfl
  rw [Nat.sub_self, maskTo_zero, idxTo_zero, show cntAt (F := F) i ids 0 = zeros from rfl] at h
  exact h

/-- The body's run. -/
theorem wp_body (fs fc : S512.Idx → Elt F .f32) (h : InRange (F := F) (idxF i ids))
    {O : CellTallies nD τ sig (HIx 1)} {W : Waits sig (HIx 1)} :
    iprop(Transfers.MayWaits (thr d i) (none : HIx 1) O ∗ held d i q ids tb pred fs fc ∗ scratch (F := F) d i ∗ zeroSems (F := F) d i ∗ owes (thr d i) O W)
      ⊢ wp frame (wpE (defs₀ (F := F)) 𝒱₀ (thr d i) none) Set.univ (body i) fun _ =>
          iprop(held d i q ids tb pred (fun x => accAt i ids tb pred 64 (lane (x 0).val)) (fun x => cntAt i ids 64 (lane (x 0).val))
            ∗ scratch (F := F) d i ∗ zeroSems (F := F) d i ∗ ∃ W', ⌜Rec W W'⌝ ∗ owes (thr d i) O W') := by
  iintro ⟨#Hmw, ⟨Hi, Ht, Hp, Hos, Hoc⟩, ⟨⟨%f0, B0⟩, ⟨%f1, B1⟩, ⟨%f2, B2⟩, ⟨%f3, B3⟩, ⟨%f4, B4⟩, ⟨%f5, B5⟩⟩, ⟨S6, S0, S1, S2⟩, HO⟩
  unfold body
  iapply (wp_fetch d i q ids f0 (Rec.refl W) _ _) $$ [Hi B0 S0 HO]
  · isplitr; · iexact Hmw
    isplitr [HO]; swap; · iexact HO
    isplitl [Hi]; · iexact Hi
    isplitl [B0]; · iexact B0
    iexact S0
  iintro ⟨⟨Hi, B0, S0⟩, %W1, %hW1, HO⟩
  iapply (blocks_run d i ids f1 f2 _ _) $$ [B0 B1 B2]
  · isplitl [B0]; · iexact B0
    isplitl [B1]; · iexact B1
    iexact B2
  iintro ⟨B0, B1, B2⟩
  iapply (wp_gathers d i q ids pred tb f3 f4 h hW1 _ _) $$ [Hp Ht B3 B4 B2 S6 HO]
  · isplitr; · iexact Hmw
    isplitr [HO]; swap; · iexact HO
    isplitl [Hp]; · iexact Hp
    isplitl [Ht]; · iexact Ht
    isplitl [B3]; · iexact B3
    isplitl [B4]; · iexact B4
    isplitl [B2]; · iexact B2
    iexact S6
  iintro ⟨⟨Hp, Ht, B3, B4, B2, S6⟩, %W2, %hW2, HO⟩
  have hl := fun k => wp_loop d i ids tb pred (α := PUnit) k
  unfold loopBufs at hl
  iapply (hl _ _) $$ [B1 B3 B4]
  · isplitl [B1]; · iexact B1
    isplitl [B3]; · iexact B3
    iexact B4
  iintro ⟨B1, B3, B4⟩
  iapply (wp_output d i (accAt i ids tb pred 64) (cntAt i ids 64) f5 fs fc hW2 _ _) $$ [B5 Hos Hoc S1 S2 HO]
  · isplitr; · iexact Hmw
    isplitr [HO]; swap; · iexact HO
    isplitl [B5]; · iexact B5
    isplitl [Hos]; · iexact Hos
    isplitl [Hoc]; · iexact Hoc
    isplitl [S1]; · iexact S1
    iexact S2
  iintro ⟨⟨B5, Hos, Hoc, S1, S2⟩, HO⟩
  sl_step
  isplitl [Hi Ht Hp Hos Hoc]
  · isplitl [Hi]; · iexact Hi
    isplitl [Ht]; · iexact Ht
    isplitl [Hp]; · iexact Hp
    isplitl [Hos]; · iexact Hos
    iexact Hoc
  isplitl [B0 B1 B2 B3 B4 B5]
  · isplitl [B0]; · iexists _; iexact B0
    isplitl [B1]; · iexists _; iexact B1
    isplitl [B2]; · iexists _; iexact B2
    isplitl [B3]; · iexists _; iexact B3
    isplitl [B4]; · iexists _; iexact B4
    iexact B5
  isplitl [S6 S0 S1 S2]
  · isplitl [S6]; · iexact S6
    isplitl [S0]; · iexact S0
    isplitl [S1]; · iexact S1
    iexact S2
  iexact HO

end Cert.KernelIdeal.Tile
-- ==== Proof.KernelIdeal.Launch.lean ====
/-
  A tile's task as the launch dispatches it: what the handshakes carry to it and back, its own buffers and semaphores
  taken out of what the subcore owns, and the obligation the launch theorem asks of it.
-/
module

public import proofs.«01_k».proof.Proof.KernelIdeal.Task
public import Idealize.ShloMosaic.Lib.SparseCore.Quiescent
public import Idealize.ShloMosaic.Lib.SparseCore.Ops
public import Idealize.ShloMosaic.Lib.SparseCore.Stream
public import Idealize.ShloMosaic.Lib.Tactic

@[expose] public section

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev 𝒱 : Variants := 𝒱₀.lift
abbrev v₀ : 𝒱.V := Sum.inl none

theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

/-! ## The tile's own buffers and semaphores -/

section Own

variable (d : Dev nD) (i : grid0.Coords)

/-- The tile's six buffers, and its four semaphores. -/
abbrev ownB : Finset (Ref sig .scVector) := {cc0_scratch0, cc0_scratch1, cc0_scratch2, cc0_scratch3, cc0_scratch4, cc0_scratch5}
abbrev ownS : Finset (SemLoc sig) :=
  {.dma cc0_scratch6.sem, .dma cc0_scoped0.sem, .dma cc0_scoped1.sem, .dma cc0_scoped2.sem}

theorem six (Φ : Ref sig .scVector → sProp 𝕄) :
    bigSep ownB Φ = iprop(Φ cc0_scratch0 ∗ Φ cc0_scratch1 ∗ Φ cc0_scratch2 ∗ Φ cc0_scratch3 ∗ Φ cc0_scratch4 ∗ Φ cc0_scratch5) := by
  rw [SparseCore.bigSep_insert' (by decide), SparseCore.bigSep_insert' (by decide), SparseCore.bigSep_insert' (by decide),
    SparseCore.bigSep_insert' (by decide), SparseCore.bigSep_insert' (by decide), bigSep_singleton]

theorem four (Φ : SemLoc sig → sProp 𝕄) :
    bigSep ownS Φ = iprop(Φ (.dma cc0_scratch6.sem) ∗ Φ (.dma cc0_scoped0.sem) ∗ Φ (.dma cc0_scoped1.sem) ∗ Φ (.dma cc0_scoped2.sem)) := by
  rw [SparseCore.bigSep_insert' (by decide), SparseCore.bigSep_insert' (by decide), SparseCore.bigSep_insert' (by decide), bigSep_singleton]

/-- The tile's buffers and semaphores on its device. -/
abbrev devB : Finset (DevRef τ sig) := ownB.map ⟨(proc i).devRef, Proc.devRef_injective _⟩
abbrev devS : Finset (GSem nD τ sig) := ownS.map ⟨fun s => (thr d i, s), fun _ _ h => (Prod.mk.inj h).2⟩

abbrev otherBufs : sProp 𝕄 :=
  bigSep (ownRefs (τ := τ) (proc i) \ devB i) fun b => iprop(∃ f, ((d, b) : Loc nD τ sig) ↦{fullShare} f)
abbrev otherSems : sProp 𝕄 := bigSep (ownCells (thr d i) \ devS d i) fun g => semVal g 0

theorem devB_sub : devB i ⊆ ownRefs (τ := τ) (proc i) := by
  intro b hb
  obtain ⟨r, hr, rfl⟩ := Finset.mem_map.mp hb
  refine SparseCore.Cfg.mem_ownRefs_of_owner ?_
  simp only [ownB, Finset.mem_insert, Finset.mem_singleton] at hr
  rcases hr with rfl | rfl | rfl | rfl | rfl | rfl <;> rfl

theorem devS_sub : devS d i ⊆ ownCells (thr d i) := by
  intro g hg
  obtain ⟨s, hs, rfl⟩ := Finset.mem_map.mp hg
  have h : ∀ s ∈ ownS, s.isScoped .scVector = true := by decide
  exact mem_ownCells.mpr ⟨rfl, h s hs⟩

/-- The subcore's buffers: the tile's six, and the others. -/
theorem ownBufs_tile : (ownBufs (thr d i) : sProp 𝕄) = iprop(scratch (F := F) d i ∗ otherBufs (F := F) d i) := by
  unfold SparseCore.Cfg.ownBufs
  refine (SparseCore.bigSep_sdiff_split' (devB_sub i)).trans ?_
  rw [bigSep_map]
  exact congrArg (fun R => iprop(R ∗ otherBufs (F := F) d i)) (six _)

/-- The subcore's semaphores: the tile's four, and the others. -/
theorem ownSems_tile : (ownSems0 (thr d i) : sProp 𝕄) = iprop(zeroSems (F := F) d i ∗ otherSems (F := F) d i) := by
  unfold SparseCore.Cfg.ownSems0
  refine (SparseCore.bigSep_sdiff_split' (devS_sub d i)).trans ?_
  rw [bigSep_map]
  exact congrArg (fun R => iprop(R ∗ otherSems (F := F) d i)) (four _)

end Own

/-! ## What the handshakes carry -/

section Pay

/-- The coordinates of subcore `s` of SparseCore `c`. -/
def at2D (c : Fin (grid0.bound 0)) (s : Fin (grid0.bound 1)) : grid0.Coords :=
  fun | 0 => c | 1 => s | ⟨_ + 2, h⟩ => absurd h (Nat.not_lt.2 (Nat.le_add_left _ _))

/-- The three flat arrays and the two results' first contents, per device, and the shares the tiles read at. -/
structure Data (F : FTy → Type) where
  ids : Dev nD → S32000.Idx → Elt F .i32
  tb : Dev nD → S128000.Idx → Elt F .f32
  pred : Dev nD → S11648000.Idx → Elt F .f32
  fs : Dev nD → S512.Idx → Elt F .f32
  fc : Dev nD → S512.Idx → Elt F .f32
  share : grid0.Coords → PosShare TreeShare

variable (A : Data F)

/-- What tile `i` holds when it starts, -/
abbrev goes (d : Dev nD) (i : grid0.Coords) : sProp 𝕄 :=
  held d i (A.share i) (A.ids d) (A.tb d) (A.pred d) (A.fs d) (A.fc d)

/-- and when it is done. -/
abbrev back (d : Dev nD) (i : grid0.Coords) : sProp 𝕄 :=
  held d i (A.share i) (A.ids d) (A.tb d) (A.pred d) (fun x => accAt i (A.ids d) (A.tb d) (A.pred d) 64 (lane (x 0).val))
    (fun x => cntAt i (A.ids d) 64 (lane (x 0).val))

/-- The call carries to each SparseCore what its sixteen tiles hold, and back. -/
def P : (K (F := F)).Pay (nD := nD) (Val := Elt F) (Name := ℕ) (U := UU) where
  st := fun q => match q with | 0 => fun d c => bigSep Finset.univ fun s : Fin (grid0.bound 1) => goes A d (at2D c s)
  dn := fun q => match q with | 0 => fun d c => bigSep Finset.univ fun s : Fin (grid0.bound 1) => back A d (at2D c s)
  go := fun q => match q with | 0 => fun d c s => goes A d (at2D c s)
  td := fun q => match q with | 0 => fun d c s => back A d (at2D c s)
  x := fun _ _ => iprop(emp)

instance P_storable : (P A).IsStorable where
  st q d c := match q with
    | 0 => (inferInstance : BI.Storable (upEmb : UEmb _ 𝕄) (bigSep Finset.univ fun s : Fin (grid0.bound 1) => goes A d (at2D c s)))
  dn q d c := match q with
    | 0 => (inferInstance : BI.Storable (upEmb : UEmb _ 𝕄) (bigSep Finset.univ fun s : Fin (grid0.bound 1) => back A d (at2D c s)))
  go q d c s := match q with
    | 0 => (inferInstance : BI.Storable (upEmb : UEmb _ 𝕄) (goes A d (at2D c s)))
  td q d c s := match q with
    | 0 => (inferInstance : BI.Storable (upEmb : UEmb _ 𝕄) (back A d (at2D c s)))

/-- The offsets every tile fetches are inside the arrays. -/
def AllInRange : Prop := ∀ (d : Dev nD) (i : grid0.Coords), InRange (F := F) (idxF i (A.ids d))

/-- The task on tile `i`, from what the subcore owns. -/
theorem task_body (h : AllInRange A) (d : Dev nD) (i : grid0.Coords) (O : CellTallies nD τ sig (HIx 1)) (W : Waits sig (HIx 1)) (hO : ∀ g, O g none = 0) :
    iprop(levAts (K (F := F)).L (K (F := F)).lev ∗ emp ∗ goes A d i
        ∗ scopedBufs (thr d i) ∗ scopedSems0 (thr d i) ∗ owes (thr d i) O W)
      ⊢ wp frame (wpE (defs₀ (F := F)) 𝒱₀ (thr d i) none) Set.univ
          (body i)
          fun _ => iprop(back A d i ∗ scopedBufs (thr d i) ∗ scopedSems0 (thr d i)
            ∗ ∃ W', ⌜∀ p ∈ W', p ∈ W ∨ p.2 = none ∨ SparseCore.Cfg.Blocks.blk (0 : Fin 1) p.2⌝ ∗ owes (thr d i) O W') := by
  rw [(K (F := F)).scopedBufs_V facts d _ _, SparseCore.Cfg.scopedSems0_V (Val := Elt F) d _ _, ownBufs_tile, ownSems_tile]
  iintro ⟨#Hlv, -, Hgo, ⟨Hsc, Hob⟩, ⟨Hz, Hos⟩, HO⟩
  ihave Hmw := (show levAts (K (F := F)).L (K (F := F)).lev ⊢ Transfers.MayWaits (thr d i) (none : HIx 1) O from
    (K (F := F)).mayWaits_none (thr := thr d i) hO) $$ Hlv
  iapply (wp_wand_r frame _ _)
  isplitl [Hgo Hsc Hz HO]
  · iapply (wp_body d i (A.share i) (A.ids d) (A.tb d) (A.pred d) (A.fs d) (A.fc d) (h d i) (O := O) (W := W))
    isplitl [Hmw]; · iexact Hmw
    isplitl [Hgo]; · iexact Hgo
    isplitl [Hsc]; · iexact Hsc
    isplitl [Hz]; · iexact Hz
    iexact HO
  iintro %_ ⟨Hb, Hsc, Hz, %W', %hW', HO⟩
  isplitl [Hb]; · iexact Hb
  isplitl [Hsc Hob]
  · isplitl [Hsc]; · iexact Hsc
    iexact Hob
  isplitl [Hz Hos]
  · isplitl [Hz]; · iexact Hz
    iexact Hos
  iexists W'
  isplitr
  · ipureintro; exact fun p hp => (hW' p hp).imp_right Or.inl
  · iexact HO

/-- The sixteen tiles' parts are already apart in what a SparseCore is handed. -/
theorem vecSplit : (K (F := F)).VecSplit' (P A) 0 := by
  intro d c
  show (bigSep Finset.univ fun s : Fin (grid0.bound 1) => goes A d (at2D c s)) ⊢ |={Set.univ}=> iprop(
      (bigSep Finset.univ fun s : Fin (grid0.bound 1) => goes A d (at2D c s))
      ∗ ((bigSep Finset.univ fun s : Fin (grid0.bound 1) => back A d (at2D c s))
          -∗ (bigSep Finset.univ fun s : Fin (grid0.bound 1) => back A d (at2D c s))))
  iintro H
  imodintro
  isplitl [H]; · iexact H
  iintro H
  iexact H

end Pay

end Cert.KernelIdeal.Tile
-- ==== Proof.KernelIdeal.Reshape.lean ====
/-
  A reshape of `@main`, from the two buffers it touches.
-/
module

public import proofs.«01_k».proof.Proof.KernelIdeal.Setup
public import Idealize.ShloMosaic.Lib.StableHlo.Run
public import Idealize.ShloMosaic.Lib.Tactic

@[expose] public section

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A buffer of device `c`'s TensorCore, as contents. -/
abbrev TBuf (c : Dev nD) (b : Ref sig .tc) : Type := Buf (Elt F) ((c.tc : Thread nD τ).loc b)

/-- A buffer of device `c`'s TensorCore, held whole. -/
abbrev tpt (c : Dev nD) (b : Ref sig .tc) (f : TBuf (F := F) c b) : sProp 𝕄 :=
  ((c.tc : Thread nD τ).loc b) ↦{fullShare} f

/-- A valuation that reads `fx` at `x` and `fy` at `y`. -/
def two (V₀ : Valuation τ sig (Elt F)) (x y : Ref sig .tc) (fx : (x : DevRef τ sig).ty.Contents (Elt F)) (fy : (y : DevRef τ sig).ty.Contents (Elt F)) :
    Valuation τ sig (Elt F) :=
  Function.update (Function.update V₀ (y : DevRef τ sig) fy) (x : DevRef τ sig) fx

/-- The reshape runs from its operand and its result's buffer held whole; the result's ends at the operand's contents in
    the new shape. -/
theorem wp_reshape {Λ : Labels} {defs : Defs nD τ sig (Elt F) Λ} (𝒱 : Variants) (bd : Option 𝒱.V) (V₀ : Valuation τ sig (Elt F)) (c : Dev nD)
    (x y : Ref sig .tc) (hxy : x ≠ y) (he : x.ty.elt = y.ty.elt) (hn : x.ty.shape.ShapeCasts y.ty.shape)
    (hx : x.space ≠ .host ∧ (x : DevRef τ sig).isScoped = false) (hy : y.space ≠ .host ∧ (y : DevRef τ sig).isScoped = false)
    (fx : TBuf (F := F) c x) (fy : TBuf (F := F) c y) {α : Type} {hp : (c.tc : Thread nD τ).2.kind.runsHlo = true}
    (k : ((b : (StableHlo.reshape (τ := τ) (Val := Elt F) x y he hn hx hy).writes) → b.1.ty.Contents (Elt F)) → Prog (TpuEff nD τ sig (Elt F) Λ (c.tc : Thread nD τ).2) α)
    (r : Prog (TpuEff nD τ sig (Elt F) Λ (c.tc : Thread nD τ).2) α) (hr : ∀ v, k v = r) (Q : α → sProp 𝕄) :
    iprop(boundary (c.tc : Thread nD τ) ∗ tpt c x fx ∗ tpt c y fy)
      ⊢ iprop(((boundary (c.tc : Thread nD τ) ∗ tpt c x fx ∗ tpt c y (fun i => he ▸ shapeCast y.ty.shape fx hn i)) -∗ wp frame (wpE defs 𝒱 (c.tc : Thread nD τ) bd) Set.univ r Q)
        -∗ wp frame (wpE defs 𝒱 (c.tc : Thread nD τ) bd) Set.univ (hlo hp (StableHlo.reshape x y he hn hx hy) k) Q) := by
  have hne : (x : DevRef τ sig) ≠ (y : DevRef τ sig) := fun h => hxy (Proc.devRef_injective _ h)
  have hVx : two V₀ x y fx fy (x : DevRef τ sig) = fx := Function.update_self _ _ _
  have hVy : two V₀ x y fx fy (y : DevRef τ sig) = fy := (Function.update_of_ne hne.symm _ _).trans (Function.update_self _ _ _)
  have hheld : ∀ W : Valuation τ sig (Elt F), (StableHlo.held (c.tc : Thread nD τ) {(x : DevRef τ sig), (y : DevRef τ sig)} W : sProp 𝕄)
      = iprop(tpt c x (W (x : DevRef τ sig)) ∗ tpt c y (W (y : DevRef τ sig))) := fun W => by
    unfold StableHlo.held
    rw [SparseCore.bigSep_insert' (by simpa using hne), bigSep_singleton]
  have h := StableHlo.wp_hlo_within (defs := defs) 𝒱 (c.tc : Thread nD τ) bd Set.univ (hp := hp) (op := StableHlo.reshape x y he hn hx hy) (k := k)
    (S := {(x : DevRef τ sig), (y : DevRef τ sig)}) (Finset.Subset.refl _) (V := two V₀ x y fx fy) (Q := Q) rfl
  rw [hheld, hheld, hVx, hVy, hr, StableHlo.reshape_result, hVx,
    HloOp.result_of_not_mem _ _ (by show (x : DevRef τ sig) ∉ ({(y : DevRef τ sig)} : Finset _); simpa using hne), hVx] at h
  exact h

/-- The same for a reshape that is a statement of `@main`. -/
theorem wp_reshape_step {Λ : Labels} {defs : Defs nD τ sig (Elt F) Λ} (𝒱 : Variants) (bd : Option 𝒱.V) (V₀ : Valuation τ sig (Elt F)) (c : Dev nD)
    (x y : Ref sig .tc) (hxy : x ≠ y) (he : x.ty.elt = y.ty.elt) (hn : x.ty.shape.ShapeCasts y.ty.shape)
    (hx : x.space ≠ .host ∧ (x : DevRef τ sig).isScoped = false) (hy : y.space ≠ .host ∧ (y : DevRef τ sig).isScoped = false)
    (fx : TBuf (F := F) c x) (fy : TBuf (F := F) c y) {hp : ((c.tc : Thread nD τ)).2.kind.runsHlo = true} (Q : PUnit → sProp 𝕄) :
    iprop(boundary ((c.tc : Thread nD τ)) ∗ tpt c x fx ∗ tpt c y fy)
      ⊢ iprop(((boundary ((c.tc : Thread nD τ)) ∗ tpt c x fx ∗ tpt c y (fun i => he ▸ shapeCast y.ty.shape fx hn i)) -∗ Q ⟨⟩)
        -∗ wp frame (wpE defs 𝒱 ((c.tc : Thread nD τ)) bd) Set.univ (hlo hp (StableHlo.reshape x y he hn hx hy) fun _ => .ret ⟨⟩) Q) := by
  iintro H Hk
  iapply (wp_reshape 𝒱 bd V₀ c x y hxy he hn hx hy fx fy (fun _ => .ret ⟨⟩) (.ret ⟨⟩) (fun _ => rfl) Q) $$ H
  iintro H
  rw [wp_ret]; imodintro
  iapply Hk; iexact H

end Cert.KernelIdeal.Tile
-- ==== Proof.KernelIdeal.Split.lean ====
/-
  The flat arrays and the two results taken apart for the thirty-two tiles, and put together again.
-/
module

public import proofs.«01_k».proof.Proof.KernelIdeal.Launch
public import proofs.«01_k».proof.Proof.KernelIdeal.Reshape

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The tiles by number -/

/-- Tile number `w`: the SparseCore `w / 16`, the subcore `w % 16`. -/
def tileAt (w : Fin 32) : grid0.Coords :=
  at2D ⟨w.val / 16, show w.val / 16 < 2 by omega⟩ ⟨w.val % 16, show w.val % 16 < 16 by omega⟩

theorem wid_tileAt (w : Fin 32) : wid (tileAt w) = w.val := by
  show 16 * (w.val / 16) + w.val % 16 = w.val
  omega

theorem at2D_eq (c : Fin 2) (s : Fin 16) : at2D c s = tileAt (finProdFinEquiv (c, s)) := by
  have hv : (finProdFinEquiv (c, s) : Fin 32).val = s.val + 16 * c.val := rfl
  unfold tileAt
  congr 1
  · exact Fin.ext (show c.val = _ / 16 by rw [hv]; omega)
  · exact Fin.ext (show s.val = _ % 16 by rw [hv]; omega)

/-- Over the SparseCores and their subcores is over the tiles' numbers. -/
theorem over_tiles (Φ : grid0.Coords → sProp 𝕄) :
    (bigSep Finset.univ fun c : Fin 2 => bigSep Finset.univ fun s : Fin 16 => Φ (at2D c s)) = bigSep Finset.univ fun w : Fin 32 => Φ (tileAt w) := by
  rw [bigSep_univ_equiv (finProdFinEquiv : Fin 2 × Fin 16 ≃ Fin 32) (fun w : Fin 32 => Φ (tileAt w)), bigSep_univ_prod]
  exact bigSep_congr fun c _ => bigSep_congr fun s _ => congrArg Φ (at2D_eq c s)

/-! ## A result's thirty-two parts -/

/-- The places of a result tile `w` writes. -/
def part (w : Fin 32) : Finset S512.Idx := Finset.univ.filter fun x => (x 0).val / 16 = w.val

theorem unit_part (w : Fin 32) : (Rect.unit (s := S512) (k0_off4 (tileAt w)) S16.size (k0_off4_inb (tileAt w))).set = part w := by
  ext x
  rw [Rect.mem_set_unit, part, Finset.mem_filter]
  have e : k0_off4 (tileAt w) 0 = 16 * w.val := (off4_eq _).trans (congrArg _ (wid_tileAt w))
  refine ⟨fun h => ⟨Finset.mem_univ _, ?_⟩, fun h (a : Fin 1) => ?_⟩
  · have h0 := h 0
    have h1 : (x 0).val < k0_off4 (tileAt w) 0 + 16 := h0.2
    have h2 := h0.1
    omega
  · obtain rfl : a = 0 := Subsingleton.elim _ _
    have h1 := h.2
    exact ⟨by omega, show (x 0).val < k0_off4 (tileAt w) 0 + 16 by omega⟩

theorem sum_part (w : Fin 32) : (sumM (tileAt w)).view.set = part w :=
  (View.set_slice_whole _ _).trans (unit_part w)
theorem cnt_part (w : Fin 32) : (cntM (tileAt w)).view.set = part w :=
  (View.set_slice_whole _ _).trans (unit_part w)

theorem part_disjoint : ∀ w ∈ (Finset.univ : Finset (Fin 32)), ∀ w' ∈ (Finset.univ : Finset (Fin 32)), w ≠ w' → Disjoint (part w) (part w') := by
  intro w _ w' _ hne
  refine Finset.disjoint_left.mpr fun x hx hx' => hne (Fin.ext ?_)
  exact (Finset.mem_filter.mp hx).2.symm.trans (Finset.mem_filter.mp hx').2

theorem part_cover : (Finset.univ : Finset (Fin 32)).biUnion part = Finset.univ := by
  ext x
  have hx : (x 0).val < 512 := (x 0).isLt
  exact ⟨fun _ => Finset.mem_univ _, fun _ => Finset.mem_biUnion.mpr ⟨⟨(x 0).val / 16, by omega⟩, Finset.mem_univ _, Finset.mem_filter.mpr ⟨Finset.mem_univ _, rfl⟩⟩⟩

/-- The tile that writes place `x` of a result. -/
def tileOf (x : S512.Idx) : grid0.Coords := tileAt ⟨(x 0).val / 16, by have : (x 0).val < 512 := (x 0).isLt; omega⟩

theorem tileOf_part {w : Fin 32} {x : S512.Idx} (h : x ∈ part w) : tileOf x = tileAt w :=
  congrArg tileAt (Fin.ext (Finset.mem_filter.mp h).2)

/-- The partial sums the tiles leave, and the counts. -/
def sumsF (ids : S32000.Idx → Elt F .i32) (tb : S128000.Idx → Elt F .f32) (pred : S11648000.Idx → Elt F .f32) : S512.Idx → Elt F .f32 := fun x =>
  accAt (tileOf x) ids tb pred 64 (lane (x 0).val)
def cntsF (ids : S32000.Idx → Elt F .i32) : S512.Idx → Elt F .f32 := fun x => cntAt (tileOf x) ids 64 (lane (x 0).val)

/-! ## Everything the tiles hold -/

/-- Tile `i`'s share of the flat arrays: one of thirty-two equal in standing. -/
def tileShare (i : grid0.Coords) : PosShare TreeShare := pieceOf fullShare 32 (by decide) ⟨wid i, wid_lt i⟩

theorem tileShare_at (w : Fin 32) : tileShare (tileAt w) = pieceOf fullShare 32 (by decide) w :=
  congrArg (pieceOf fullShare 32 (by decide)) (Fin.ext (wid_tileAt w))

/-- The five buffers of the SparseCore call, whole. -/
abbrev five (d : Dev nD) (ids : S32000.Idx → Elt F .i32) (tb : S128000.Idx → Elt F .f32) (pred : S11648000.Idx → Elt F .f32) (fs fc : S512.Idx → Elt F .f32) : sProp 𝕄 :=
  iprop(tpt d main_v0 ids ∗ tpt d main_v1 tb ∗ tpt d main_v2 pred ∗ tpt d main_v3_0 fs ∗ tpt d main_v3_1 fc)

theorem shares (d : Dev nD) (b : Ref sig .tc) (f : TBuf (F := F) d b) :
    (tpt d b f : sProp 𝕄) = bigSep Finset.univ fun w : Fin 32 => ((d.tc : Thread nD τ).loc b) ↦{tileShare (tileAt w)} f :=
  (pointsTo_piecesOf Finset.univ f (o := 32) (by decide) fullShare).trans (bigSep_congr fun w _ => by rw [tileShare_at])

theorem sum_parts (d : Dev nD) (f : S512.Idx → Elt F .f32) :
    (tpt d main_v3_0 f : sProp 𝕄) = bigSep Finset.univ fun w : Fin 32 => (sumM (tileAt w)).view.loc (thr d (tileAt w)) ↦[(sumM (tileAt w)).view.set]{fullShare} f := by
  have h := pointsTo_biUnion (Ix := HIx 1) (Name := ℕ) (U := UU) (Lvl := ℕ) (Val := Elt F) (ℓ := (d.tc : Thread nD τ).loc main_v3_0) (q := fullShare) (f := f)
    Finset.univ part part_disjoint
  rw [part_cover] at h
  exact h.trans (bigSep_congr fun w _ => by rw [sum_part])
theorem cnt_parts (d : Dev nD) (f : S512.Idx → Elt F .f32) :
    (tpt d main_v3_1 f : sProp 𝕄) = bigSep Finset.univ fun w : Fin 32 => (cntM (tileAt w)).view.loc (thr d (tileAt w)) ↦[(cntM (tileAt w)).view.set]{fullShare} f := by
  have h := pointsTo_biUnion (Ix := HIx 1) (Name := ℕ) (U := UU) (Lvl := ℕ) (Val := Elt F) (ℓ := (d.tc : Thread nD τ).loc main_v3_1) (q := fullShare) (f := f)
    Finset.univ part part_disjoint
  rw [part_cover] at h
  exact h.trans (bigSep_congr fun w _ => by rw [cnt_part])

/-- The five buffers whole are what the tiles hold, all together. -/
theorem five_tiles (d : Dev nD) (ids : S32000.Idx → Elt F .i32) (tb : S128000.Idx → Elt F .f32) (pred : S11648000.Idx → Elt F .f32) (fs fc : S512.Idx → Elt F .f32) :
    (five d ids tb pred fs fc : sProp 𝕄) = bigSep Finset.univ fun w : Fin 32 => held d (tileAt w) (tileShare (tileAt w)) ids tb pred fs fc := by
  unfold five held
  rw [bigSep_sep', bigSep_sep', bigSep_sep', bigSep_sep', ← sum_parts, ← cnt_parts, shares d main_v0, shares d main_v1, shares d main_v2]

/-- A tile leaves its part of the sums and of the counts. -/
theorem held_done (d : Dev nD) (w : Fin 32) (q : PosShare TreeShare) (ids : S32000.Idx → Elt F .i32) (tb : S128000.Idx → Elt F .f32) (pred : S11648000.Idx → Elt F .f32) :
    (held d (tileAt w) q ids tb pred (fun x => accAt (tileAt w) ids tb pred 64 (lane (x 0).val)) (fun x => cntAt (tileAt w) ids 64 (lane (x 0).val)) : sProp 𝕄)
      = held d (tileAt w) q ids tb pred (sumsF ids tb pred) (cntsF ids) := by
  have hs := pointsTo_congr (Ix := HIx 1) (Name := ℕ) (U := UU) (Lvl := ℕ) (Val := Elt F) (ℓ := (sumM (tileAt w)).view.loc (thr d (tileAt w))) (q := fullShare)
    (I := (sumM (tileAt w)).view.set) (f := fun x : S512.Idx => accAt (tileAt w) ids tb pred 64 (lane (x 0).val)) (g := sumsF ids tb pred) fun x hx => by
      rw [sum_part] at hx
      unfold sumsF; rw [tileOf_part hx]
  have hc := pointsTo_congr (Ix := HIx 1) (Name := ℕ) (U := UU) (Lvl := ℕ) (Val := Elt F) (ℓ := (cntM (tileAt w)).view.loc (thr d (tileAt w))) (q := fullShare)
    (I := (cntM (tileAt w)).view.set) (f := fun x : S512.Idx => cntAt (tileAt w) ids 64 (lane (x 0).val)) (g := cntsF ids) fun x hx => by
      rw [cnt_part] at hx
      unfold cntsF; rw [tileOf_part hx]
  unfold held
  rw [hs, hc]

variable (A : Data F) (hA : A.share = tileShare)
include hA

/-- What the call starts from, -/
theorem call_starts (d : Dev nD) :
    (bigSep Finset.univ fun c : Fin ((K (F := F)).nCore 0) => (P A).st 0 d c) = (five d (A.ids d) (A.tb d) (A.pred d) (A.fs d) (A.fc d) : sProp 𝕄) := by
  rw [five_tiles, ← hA]
  exact over_tiles (F := F) fun i => goes A d i

/-- and what it ends with. -/
theorem call_ends (d : Dev nD) :
    (bigSep Finset.univ fun c : Fin ((K (F := F)).nCore 0) => (P A).dn 0 d c)
      = (five d (A.ids d) (A.tb d) (A.pred d) (sumsF (A.ids d) (A.tb d) (A.pred d)) (cntsF (A.ids d)) : sProp 𝕄) := by
  rw [five_tiles, ← hA]
  exact (over_tiles (F := F) fun i => back A d i).trans (bigSep_congr fun w _ => held_done d w _ _ _ _)

end Cert.KernelIdeal.Tile
-- ==== Proof.KernelIdeal.Combine.lean ====
/-
  The closing TensorCore kernel: it adds up the 512 partial sums and the 512 counts and stores the quotient of the sum by
  four times the count. The region that runs it takes the two arrays of partial results at any contents, and leaves
  the result array at that quotient.
-/
module

public import proofs.«01_k».proof.Proof.KernelIdeal.Reshape
public import proofs.«01_k».proof.Proof.Gen.KernelIdeal.Launch
public import proofs.«01_k».proof.Proof.Gen.KernelIdeal.Points
public import Idealize.ShloMosaic.Lib.SparseCore.Quiescent
public import Idealize.ShloMosaic.Lib.Pipeline.Regions
public import Idealize.ShloMosaic.Lib.Pipeline.Value
public import Idealize.ShloMosaic.Lib.ValueLayout
public import Idealize.ShloMosaic.Lib.Tactic

@[expose] public section

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig (HIx 1) (Elt F) ℕ UU ℕ

/-- A staging buffer of device `c`'s TensorCore, held whole through its reference. -/
abbrev spt (c : Dev nD) {S : Shape} (M : Memref sig .tc .vmem S .f32) (f : Buf (Elt F) (M.view.loc (c.tc : Thread nD τ))) : sProp 𝕄 :=
  M.view.loc (c.tc : Thread nD τ) ↦{fullShare} f

/-- The quotient the kernel stores, over the two arrays of partial results. -/
def quot (a b : Vec F S32x16 .f32) : Vec F S1x1 .f32 := k1_pay1 a b

theorem load_part0 (f : S32x16.Idx → Elt F .f32) :
    View.readAt (Elt F) (stage1_0 0).view (Rect.unit (s := S32x16) ![0, 0] S32x16.size inb_S32x16_S32x16_0_0).toLoadRect f = f :=
  funext fun x => congrArg f (funext fun a => Fin.ext (by
    match a with
    | 0 => show 0 + 1 * (x 0).val = (x 0).val; omega
    | 1 => show 0 + 1 * (x 1).val = (x 1).val; omega))

theorem load_part1 (f : S32x16.Idx → Elt F .f32) :
    View.readAt (Elt F) (stage1_1 0).view (Rect.unit (s := S32x16) ![0, 0] S32x16.size inb_S32x16_S32x16_0_0).toLoadRect f = f :=
  funext fun x => congrArg f (funext fun a => Fin.ext (by
    match a with
    | 0 => show 0 + 1 * (x 0).val = (x 0).val; omega
    | 1 => show 0 + 1 * (x 1).val = (x 1).val; omega))

/-- The store fills the one place of the result's buffer. -/
theorem store_quot (f : S1x1.Idx → Elt F .f32) (w : S1x1.Idx → Elt F .f32) :
    (stage1_2 0).view.writes (Elt F) f [⟨Rect.unit (s := S1x1) ![0, 0] S1x1.size inb_S1x1_S1x1_0_0, w⟩] = w := by
  rw [View.writes_singleton]
  refine (View.write_whole_slice_unit (Val := Elt F) cc1_stg2_0 ![0, 0] S1x1.size inb_S1x1_S1x1_0_0 f w).trans (funext fun x => ?_)
  unfold updateSlice
  have h0 : (x 0).val = 0 := Nat.lt_one_iff.mp (x 0).isLt
  have h1 : (x 1).val = 0 := Nat.lt_one_iff.mp (x 1).isLt
  refine (dif_pos fun a => ?_).trans (congrArg w (funext fun a => Fin.ext ?_))
  · match a with
    | 0 => exact ⟨Nat.zero_le _, (x 0).isLt.trans_le (Nat.le_add_left _ _)⟩
    | 1 => exact ⟨Nat.zero_le _, (x 1).isLt.trans_le (Nat.le_add_left _ _)⟩
  · match a with
    | 0 => exact Nat.sub_zero _
    | 1 => exact Nat.sub_zero _

/-- The kernel's body runs from its three staging buffers: the first two are handed back as they were and the third holds
    the quotient. -/
theorem wp_combine (c : Dev nD) (f0 : TBuf (F := F) c cc1_stg0_0) (f1 : TBuf (F := F) c cc1_stg1_0)
    (f2 : TBuf (F := F) c cc1_stg2_0) (E : Set ℕ) (Q : PUnit → sProp 𝕄) :
    iprop(spt c (stage1_0 0) f0 ∗ spt c (stage1_1 0) f1 ∗ spt c (stage1_2 0) f2
        ∗ (iprop(spt c (stage1_0 0) f0 ∗ spt c (stage1_1 0) f1 ∗ spt c (stage1_2 0) (quot f0 f1)) -∗ Q ⟨⟩))
      ⊢ wp frame (wpE (defs₀ (F := F)) 𝒱₀ (c.tc : Thread nD τ) none) E
        (cc1__combine_body (stage1_0 0) (hstage1_0 0) (stage1_1 0) (hstage1_1 0) (stage1_2 0) (hstage1_2 0)) Q := by
  rw [cc1__combine_body_eq_skeleton]
  unfold cc1__combine_body_skel
  iintro ⟨H0, H1, H2, Hk⟩
  sl_exec!
  sl_step
  iapply Hk
  isplitl [H0]; · iexact H0
  isplitl [H1]; · iexact H1
  rw [show (stage1_2 0).view.writes (Elt F) (stage1_2 0).view.junk (wp_combine.sl.H2_1 c f0 f1) = quot f0 f1 from by
    unfold wp_combine.sl.H2_1 quot
    rw [load_part0, load_part1]
    exact store_quot _ _]
  iexact H2

section Region

variable (a : (c : Dev nD) → TBuf (F := F) c main_v4) (b : (c : Dev nD) → TBuf (F := F) c main_v5)
  (o : (c : Dev nD) → TBuf (F := F) c main_v6)

/-- The core's scoped buffers the region does not stage. -/
abbrev others (c : Dev nD) : sProp 𝕄 :=
  Pipeline.scopedRest (Ix := HIx 1) (Name := ℕ) (U := UU) (Lvl := ℕ) (Val := Elt F) spec1 c

/-- The proof data of the region: its three arrays, and its staging buffers after the body; the waits recorded before it
    are of level at most `lim`. -/
def dat (lim : ℕ) (c : Dev nD) : Dat τ (Elt F) (HIx 1) ℕ UU ℕ cfg1 c where
  A w := match w with
    | ⟨0, _⟩ => a c
    | ⟨1, _⟩ => b c
    | ⟨2, _⟩ => o c
  after w _ := match w with
    | ⟨0, _⟩ => a c
    | ⟨1, _⟩ => b c
    | ⟨2, _⟩ => quot (a c) (b c)
  Φ _ := others c
  q _ := fullShare
  owed _ := 0
  recorded _ := {p | (K (F := F)).lev (T c, p.1) p.2 ≤ lim}

variable (lim : ℕ)

/-- No table is prefetched. -/
abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat a b o lim c

theorem fetched_sum (c : Dev nD) (x : (cfg1.win 0).block.Idx → Elt F (cfg1.win 0).elt) :
    (dat a b o lim c).before 0 t1_0 x = a c := by
  unfold Dat.before
  rw [if_pos (by decide)]
  refine Eq.trans (b := ((cfg1.win 0).blk t1_0).view.read (Elt F) (a c)) rfl (funext fun y => congrArg (a c) (funext fun k => Fin.ext ?_))
  match k with
  | 0 => show 0 * 32 + 1 * (y 0).val = (y 0).val; omega
  | 1 => show 0 * 16 + 1 * (y 1).val = (y 1).val; omega

theorem fetched_cnt (c : Dev nD) (x : (cfg1.win 1).block.Idx → Elt F (cfg1.win 1).elt) :
    (dat a b o lim c).before 1 t1_0 x = b c := by
  unfold Dat.before
  rw [if_pos (by decide)]
  refine Eq.trans (b := ((cfg1.win 1).blk t1_0).view.read (Elt F) (b c)) rfl (funext fun y => congrArg (b c) (funext fun k => Fin.ext ?_))
  match k with
  | 0 => show 0 * 32 + 1 * (y 0).val = (y 0).val; omega
  | 1 => show 0 * 16 + 1 * (y 1).val = (y 1).val; omega

/-- The body at the region's one point. -/
theorem combine_body (c : Dev nD) : BodyObligation (dat a b o lim c) (defs₀ (F := F)) 𝒱₀ (none : HIx 1) Set.univ := fun t => by
  obtain rfl := fin_N1 t
  rw [bigSep_W1, bigSep_W1]
  simp only [owns_whole_eq]
  rw [show (dat a b o lim c).Φ t1_0.succ = (dat a b o lim c).Φ t1_0.castSucc from rfl,
    show (dat a b o lim c).owesAt none t1_0.succ = (dat a b o lim c).owesAt none t1_0.castSucc from rfl]
  iintro ⟨HΦ, HO, ⟨%d0, %f0, %hf0, H0⟩, ⟨%d1, %f1, %hf1, H1⟩, ⟨%d2, %f2, -, H2⟩⟩
  rw [fetched_sum] at hf0
  rw [fetched_cnt] at hf1
  subst hf0
  subst hf1
  iapply (wp_combine c _ _ f2 Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists _
    isplitr
    swap
    · iexact H0
    · ipureintro; rfl
  isplitl [H1]
  · iexists _
    isplitr
    swap
    · iexact H1
    · ipureintro; rfl
  · iexists _
    isplitr
    swap
    · iexact H2
    · ipureintro; rfl

/-- The block of the result's window is its whole array. -/
theorem result_blk (c : Dev nD) (f : TBuf (F := F) c main_v6) : ((cfg1.win 2).blk t1_0).view.read (Elt F) f = f :=
  funext fun y => congrArg f (funext fun k => Fin.ext (by
    match k with
    | 0 => show 0 * 1 + 1 * (y 0).val = (y 0).val; omega
    | 1 => show 0 * 1 + 1 * (y 1).val = (y 1).val; omega))

/-- After the region the result's array holds the quotient. -/
theorem result_eq (c : Dev nD) : (dat a b o lim c).arrAt 2 cfg1.N = quot (a c) (b c) := by
  refine (dat a b o lim c).arrAt_eq_of_cover 2 (quot (a c) (b c)) (fun t _ => ?_) (fun i => ⟨t1_0, flush1_2 _, ?_⟩)
  · obtain rfl := fin_N1 t
    exact (result_blk c (quot (a c) (b c))).symm
  · refine Finset.mem_image.mpr ⟨i, Finset.mem_univ _, funext fun k => Fin.ext ?_⟩
    match k with
    | 0 => show 0 * 1 + 1 * (i 0).val = (i 0).val; omega
    | 1 => show 0 * 1 + 1 * (i 1).val = (i 1).val; omega

/-- The region's three arrays, one by one. -/
theorem arrays_three (c : Dev nD) (f : (w : Fin 3) → Buf (Elt F) ((spec1 w).arr.view.loc (c.tc : Thread nD τ))) :
    (pdats a b o lim 0 c).arrays f = iprop(tpt c main_v4 (f 0) ∗ tpt c main_v5 (f 1) ∗ tpt c main_v6 (f 2)) :=
  (Pipeline.arrays_eq cfgs (pdats a b o lim) 0 c arr_whole1 ((pdats a b o lim 0 c).share_full fun _ => rfl) f).trans (bigSep_W1 _)

/-- The region: entered with the two arrays of partial results at any contents, and left with the quotient in the
    result's array; what the core waits for inside it has level zero, so the bound on its recorded waits stays. -/
def region : Pipeline.RegionSeg (pcfgs (F := F)) adm (pdats a b o lim) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (combine_body a b o lim c).loose
  hwaits := Pipeline.hwaits_of_owed_zero _ _ _ _ _ _ 0 fun _ _ => rfl
  pre c := iprop(tpt c main_v4 (a c) ∗ tpt c main_v5 (b c) ∗ tpt c main_v6 (o c)
    ∗ ∃ W, ⌜(K (F := F)).WBelow (T c) W lim⌝ ∗ owes (T c) (0 : CellTallies nD τ sig (HIx 1)) W)
  post c := iprop(tpt c main_v4 (a c) ∗ tpt c main_v5 (b c) ∗ tpt c main_v6 (quot (a c) (b c))
    ∗ ∃ W, ⌜(K (F := F)).WBelow (T c) W lim⌝ ∗ owes (T c) (0 : CellTallies nD τ sig (HIx 1)) W)
  X _ := BI.emp
  Y _ := BI.emp
  Z _ := BI.emp
  hentry c := by
    rw [Pipeline.ownSems0_none, arrays_three]
    iintro ⟨⟨Ha, Hb, Ho, %W, %hW, HO⟩, -, -⟩
    imodintro
    isplitl [Ha Hb Ho]
    · isplitl [Ha]; · iexact Ha
      isplitl [Hb]; · iexact Hb
      iexact Ho
    isplitr
    · unfold Pipeline.prefHeld
      rw [show (Finset.univ : Finset (Fin 0)) = ∅ from rfl, BI.bigSep_empty]
      iempintro
    isplitl [HO]
    · unfold Pipeline.Dat.owesAt Pipeline.owesWithin
      iexists W
      isplitr
      · ipureintro; exact fun p hp => Or.inl (hW p hp)
      · iexact HO
    isplitr <;> iempintro
  hin c := by
    rw [show (pdats a b o lim 0 c).Φ 0 = others c from rfl]
    iintro ⟨-, -, Hr⟩
    iexact Hr
  hout c := by
    rw [Pipeline.ownSems0_none, show (pdats a b o lim 0 c).Φ (Fin.last _) = others c from rfl]
    iintro Hr
    isplitr; · iempintro
    isplitr; · iempintro
    iexact Hr
  hexit c := by
    rw [arrays_three]
    iintro ⟨⟨Ha, Hb, Ho⟩, HO, -, -⟩
    imodintro
    rw [show (pdats a b o lim 0 c).arrAt 0 (Pipeline.pin (pcfgs (F := F)) adm 0).N = a c from (dat a b o lim c).arrAt_in 0 rfl _,
      show (pdats a b o lim 0 c).arrAt 1 (Pipeline.pin (pcfgs (F := F)) adm 0).N = b c from (dat a b o lim c).arrAt_in 1 rfl _,
      show (pdats a b o lim 0 c).arrAt 2 (Pipeline.pin (pcfgs (F := F)) adm 0).N = quot (a c) (b c) from result_eq a b o lim c]
    isplitl [Ha]; · iexact Ha
    isplitl [Hb]; · iexact Hb
    isplitl [Ho]; · iexact Ho
    unfold Pipeline.Dat.owesAt Pipeline.owesWithin
    icases HO with ⟨%W, %hW, HO⟩
    iexists W
    isplitr
    · ipureintro
      intro p hp
      rcases hW hp with h | h
      · exact h
      · obtain ⟨w, s, rfl⟩ := h
        exact Nat.zero_le _
    · iexact HO

end Region

end Cert.KernelIdeal.Tile
-- ==== Proof.KernelIdeal.Oblige.lean ====
/-
  The obligation the launch theorem asks of the tiles: each runs the task of its coordinates.
-/
module

public import proofs.«01_k».proof.Proof.KernelIdeal.Launch
public import proofs.«01_k».proof.Proof.KernelIdeal.BodyEq
public import Idealize.ShloMosaic.Lib.SparseCore.Quiescent
public import Idealize.ShloMosaic.Lib.SparseCore.Ops
public import Idealize.ShloMosaic.Lib.SparseCore.Stream
public import Idealize.ShloMosaic.Lib.Tactic

@[expose] public section

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (A : Data F)

/-- The body of the tile of subcore `s` of SparseCore `c`. -/
@[irreducible] def tileProg (c : Fin (grid0.bound 0)) (s : Fin (grid0.bound 1)) :
    Prog (TpuEff nD τ sig (Elt F) Λ₀ (.scVector (c.castLE hcore0) (s.castLE hsub0))) PUnit :=
  cc0__sc_body (F := F) (at2D c s) tciV (Memref.isWhole_whole _) tbV (Memref.isWhole_whole _) predV (Memref.isWhole_whole _)
    sumV (Memref.isWhole_whole _) cntV (Memref.isWhole_whole _) idsV (Memref.isWhole_whole _) maskV (Memref.isWhole_whole _)
    idxV (Memref.isWhole_whole _) gathV (Memref.isWhole_whole _) tbtV (Memref.isWhole_whole _) outV (Memref.isWhole_whole _)
    cc0_scratch6 cc0_scoped0 cc0_scoped1 cc0_scoped2

theorem tileProg_eq (c : Fin (grid0.bound 0)) (s : Fin (grid0.bound 1)) :
    (tileProg c s : Prog (TpuEff nD τ sig (Elt F) Λ₀ (.scVector (c.castLE hcore0) (s.castLE hsub0))) PUnit) = body (at2D c s) := by
  unfold tileProg
  exact body_eq (at2D c s)

theorem defs₀_tile (c : Fin τ.nSC) (s : Fin τ.nSub) :
    defs₀ (F := F) (.scVector c s) 0 () = SparseCore.onTile hcore0 hsub0 (fun c s => tileProg c s) ⟨⟩ c s := by
  unfold tileProg
  rfl

/-- The task on the subcore `s` of SparseCore `c`. -/
theorem task_at (h : AllInRange A) (d : Dev nD) (c : Fin (grid0.bound 0)) (s : Fin (grid0.bound 1))
    (O : CellTallies nD τ sig (HIx 1)) (W : Waits sig (HIx 1)) (hO : ∀ g, O g none = 0) :
    iprop(levAts (K (F := F)).L (K (F := F)).lev ∗ emp ∗ goes A d (at2D c s)
        ∗ scopedBufs (thr d (at2D c s)) ∗ scopedSems0 (thr d (at2D c s)) ∗ owes (thr d (at2D c s)) O W)
      ⊢ wp frame (wpE (defs₀ (F := F)) 𝒱₀ (thr d (at2D c s)) none) Set.univ (tileProg c s)
          fun _ => iprop(back A d (at2D c s) ∗ scopedBufs (thr d (at2D c s)) ∗ scopedSems0 (thr d (at2D c s))
            ∗ ∃ W', ⌜∀ p ∈ W', p ∈ W ∨ p.2 = none ∨ SparseCore.Cfg.Blocks.blk (0 : Fin 1) p.2⌝ ∗ owes (thr d (at2D c s)) O W') := by
  rw [tileProg_eq]
  exact task_body A h d (at2D c s) O W hO

set_option maxRecDepth 16384 in
/-- What the launch theorem asks of the tiles. -/
theorem tileObl (h : AllInRange A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]
  simp only [SparseCore.onTile, hci, and_self, ↓reduceDIte]
  exact task_at A h d c i O W hO

end Cert.KernelIdeal.Tile
-- ==== Proof.KernelIdeal.Main.lean ====
/-
  `@main` on the TensorCore: the arrays flattened, the SparseCore call, the partial results combined.
-/
module

public import proofs.«01_k».proof.Proof.KernelIdeal.Split
public import proofs.«01_k».proof.Proof.KernelIdeal.Combine
public import proofs.«01_k».proof.Proof.KernelIdeal.Oblige

@[expose] public section

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The ghost state of the combining region's copies. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

instance EP_landsIn : (EP : Emb (UR sig nD τ) 𝕄).LandsIn (upEmb : UEmb _ 𝕄) := by unfold EP; infer_instance

/-- The combining call: from the two arrays of partial results, the quotient of their totals in the third. -/
theorem wp_call [∀ e, Nonempty (Elt F e)] (d : Dev nD) (a : TBuf (F := F) d main_v4) (b : TBuf (F := F) d main_v5) (o : TBuf (F := F) d main_v6) (lim : ℕ) (Q : PUnit → sProp 𝕄) :
    iprop(levAts (K (F := F)).L (K (F := F)).lev ∗ boundary (T d) ∗ (tpt d main_v4 a ∗ tpt d main_v5 b ∗ tpt d main_v6 o)
        ∗ (∃ W, ⌜(K (F := F)).WBelow (T d) W lim⌝ ∗ owes (T d) (0 : CellTallies nD τ sig (HIx 1)) W) ∗ ghost d)
      ⊢ iprop(((boundary (T d) ∗ (tpt d main_v4 a ∗ tpt d main_v5 b ∗ tpt d main_v6 (quot a b))
            ∗ ∃ W, ⌜(K (F := F)).WBelow (T d) W lim⌝ ∗ owes (T d) (0 : CellTallies nD τ sig (HIx 1)) W) -∗ Q ⟨⟩)
        -∗ wp frame (wpE ((K (F := F)).defs (D (F := F))) 𝒱 (T d) none) Set.univ (Prog.lift (.customCall (SparseCore.inner (Pipeline.entry 0)) ())) Q) := by
  have hd : ∀ c : Dev nD, d = c := fun c => Subsingleton.elim _ _
  let a' : (c : Dev nD) → TBuf (F := F) c main_v4 := fun c => hd c ▸ a
  let b' : (c : Dev nD) → TBuf (F := F) c main_v5 := fun c => hd c ▸ b
  let o' : (c : Dev nD) → TBuf (F := F) c main_v6 := fun c => hd c ▸ o
  have h := Pipeline.RegionSeg.wp (pcfgs (F := F)) adm (pdats a' b' o' lim) none cellOf_inj EP defs₀ 𝒱₀ (K (F := F)).L (K (F := F)).lev
    (region a' b' o' lim) d none (fun u hu => nomatch hu) .ret Q
  have hpre : (region a' b' o' lim).pre d = iprop(tpt d main_v4 a ∗ tpt d main_v5 b ∗ tpt d main_v6 o
    ∗ ∃ W, ⌜(K (F := F)).WBelow (T d) W lim⌝ ∗ owes (T d) (0 : CellTallies nD τ sig (HIx 1)) W) := rfl
  have hpost : (region a' b' o' lim).post d = iprop(tpt d main_v4 a ∗ tpt d main_v5 b ∗ tpt d main_v6 (quot a b)
    ∗ ∃ W, ⌜(K (F := F)).WBelow (T d) W lim⌝ ∗ owes (T d) (0 : CellTallies nD τ sig (HIx 1)) W) := rfl
  rw [hpre, hpost] at h
  iintro ⟨Hlv, Hb, ⟨Ha, Hbb, Ho⟩, HO, Hg, Ht⟩ Hk
  iapply ((K (F := F)).wp_liftProg (D (F := F)) 𝒱 (T d) Set.univ none (Prog.op (.customCall (Pipeline.entry 0) ()) .ret) Q)
  iapply h
  isplitl [Hk]
  · iintro ⟨Hb, Ha, Hbb, Ho, HO⟩
    rw [wp_ret]; imodintro
    iapply Hk
    isplitl [Hb]; · iexact Hb
    isplitl [Ha Hbb Ho]
    · isplitl [Ha]; · iexact Ha
      isplitl [Hbb]; · iexact Hbb
      iexact Ho
    iexact HO
  isplitl [Hb]; · iexact Hb
  isplitl [Ha Hbb Ho HO]
  · isplitl [Ha]; · iexact Ha
    isplitl [Hbb]; · iexact Hbb
    isplitl [Ho]; · iexact Ho
    iexact HO
  isplitl [Hlv]; · iexact Hlv
  isplitl [Hg]; · iexact Hg
  iexact Ht

variable (m : (ℓ : Loc nD τ sig) → Buf (Elt F) ℓ) (ρ : Dev nD → PrngReg)

/-- The contents a buffer of the TensorCore is launched at. -/
abbrev at₀ (d : Dev nD) (b : Ref sig .tc) : TBuf (F := F) d b := m ((d.tc : Thread nD τ).loc b)

/-- The call's data: the three arguments flat. -/
def launch : Data F where
  ids d := shapeCast S32000 (at₀ m d main_arg1) shapeCasts_S32x1000_S32000
  tb d := shapeCast S128000 (at₀ m d main_arg0) shapeCasts_S32x1000x4_S128000
  pred d := shapeCast S11648000 (at₀ m d main_arg2) shapeCasts_S32x1000x91x4_S11648000
  fs d := at₀ m d main_v3_0
  fc d := at₀ m d main_v3_1
  share := tileShare

/-- What `@main` returns. -/
def result (d : Dev nD) : S_.Idx → Elt F .f32 :=
  shapeCast S_ (quot (F := F)
    (shapeCast S32x16 (sumsF ((launch m).ids d) ((launch m).tb d) ((launch m).pred d)) shapeCasts_S512_S32x16)
    (shapeCast S32x16 (cntsF ((launch m).ids d)) shapeCasts_S512_S32x16)) shapeCasts_S1x1_S_

theorem twelve (Φ : Ref sig .tc → sProp 𝕄) :
    (bigSep (Finset.univ.filter fun b : Ref sig .tc => ¬ b.isScoped) Φ)
      = iprop(Φ main_arg0 ∗ Φ main_arg1 ∗ Φ main_arg2 ∗ Φ main_v0 ∗ Φ main_v1 ∗ Φ main_v2 ∗ Φ main_v3_0 ∗ Φ main_v3_1 ∗ Φ main_v4 ∗ Φ main_v5 ∗ Φ main_v6 ∗ Φ main_v7) := by
  rw [show (Finset.univ.filter fun b : Ref sig .tc => ¬ b.isScoped)
      = {main_arg0, main_arg1, main_arg2, main_v0, main_v1, main_v2, main_v3_0, main_v3_1, main_v4, main_v5, main_v6, main_v7} by decide]
  repeat rw [SparseCore.bigSep_insert' (by decide)]
  rw [bigSep_singleton]

/-- What the TensorCore ends with: the arguments as launched, and the result. -/
abbrev FIN (d : Dev nD) : sProp 𝕄 :=
  iprop(tpt d main_arg0 (at₀ m d main_arg0) ∗ tpt d main_arg1 (at₀ m d main_arg1) ∗ tpt d main_arg2 (at₀ m d main_arg2) ∗ tpt d main_v7 (result m d))

/-- The wait bound in what the TensorCore holds after the call, its debts being none. -/
theorem tcSt_one (d : Dev nD) : ∃ (lim : ℕ) (R : sProp 𝕄), (K (F := F)).tcSt EH d 1
    = iprop((∃ W, ⌜(K (F := F)).WBelow (T d) W lim⌝ ∗ owes (T d) (0 : CellTallies nD τ sig (HIx 1)) W) ∗ R) :=
  ⟨_, _, by unfold SparseCore.Cfg.tcSt; rw [(K (F := F)).Otc_end d le_rfl]⟩

set_option maxRecDepth 4096 in
theorem hmain [∀ e, Nonempty (Elt F e)] (κ : GSem nD τ sig → ℕ) (d : Dev nD) :
    iprop((K (F := F)).ctx EH (P (launch m)) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m d ∗ (K (F := F)).tcEnd d) := by
  obtain ⟨lim, R, hR⟩ := tcSt_one (F := F) d
  unfold SparseCore.Cfg.tcRes SparseCore.Cfg.tcEnd unscopedBufs
  rw [twelve]
  simp only [main, wp_bind, wp_pure]
  iintro ⟨#Hctx, Hst, ⟨Hb, ⟨H0, H1, H2, V0, V1, V2, V3, V3', V4, V5, V6, V7⟩, Hts, -⟩, Hg⟩
  iapply (wp_reshape_step 𝒱 none (fun b => m (d, b)) d main_arg1 main_v0 (by decide) rfl shapeCasts_S32x1000_S32000 _ _ _ _ _) $$ [Hb H1 V0]
  · isplitl [Hb]; · iexact Hb
    isplitl [H1]; · iexact H1
    iexact V0
  iintro ⟨Hb, H1, V0⟩
  iapply (wp_reshape_step 𝒱 none (fun b => m (d, b)) d main_arg0 main_v1 (by decide) rfl shapeCasts_S32x1000x4_S128000 _ _ _ _ _) $$ [Hb H0 V1]
  · isplitl [Hb]; · iexact Hb
    isplitl [H0]; · iexact H0
    iexact V1
  iintro ⟨Hb, H0, V1⟩
  iapply (wp_reshape_step 𝒱 none (fun b => m (d, b)) d main_arg2 main_v2 (by decide) rfl shapeCasts_S32x1000x91x4_S11648000 _ _ _ _ _) $$ [Hb H2 V2]
  · isplitl [Hb]; · iexact Hb
    isplitl [H2]; · iexact H2
    iexact V2
  iintro ⟨Hb, H2, V2⟩
  iapply ((K (F := F)).wp_run (D (F := F)) 𝒱 (EH := EH) (P := P (launch m)) κ d 0) $$ [-]
  isplitr; · iexact Hctx
  isplitl [Hst]; · iexact Hst
  isplitl [V0 V1 V2 V3 V3']
  · rw [call_starts (launch m) rfl d]
    isplitl [V0]; · iexact V0
    isplitl [V1]; · iexact V1
    isplitl [V2]; · iexact V2
    isplitl [V3]; · iexact V3
    iexact V3'
  iintro ⟨Hst, Hdn⟩
  ihave Hdn' := (Entails.of_eq (call_ends (launch m) rfl d)) $$ Hdn
  icases Hdn' with ⟨-, -, -, V3, V3'⟩
  iapply (wp_reshape_step 𝒱 none (fun b => m (d, b)) d main_v3_0 main_v4 (by decide) rfl shapeCasts_S512_S32x16 _ _ _ _ _) $$ [Hb V3 V4]
  · isplitl [Hb]; · iexact Hb
    isplitl [V3]; · iexact V3
    iexact V4
  iintro ⟨Hb, V3, V4⟩
  iapply (wp_reshape_step 𝒱 none (fun b => m (d, b)) d main_v3_1 main_v5 (by decide) rfl shapeCasts_S512_S32x16 _ _ _ _ _) $$ [Hb V3' V5]
  · isplitl [Hb]; · iexact Hb
    isplitl [V3']; · iexact V3'
    iexact V5
  iintro ⟨Hb, V3', V5⟩
  ihave Hst' := (show (K (F := F)).tcSt EH d ((0 : Fin 1).val + 1) ⊢ _ from Entails.of_eq hR) $$ Hst
  icases Hst' with ⟨HO, HR⟩
  ihave Hlv := (SparseCore.Cfg.ctx_levAts κ) $$ Hctx
  iapply (wp_call d _ _ _ lim _) $$ [Hlv Hb V4 V5 V6 HO Hg]
  · isplitl [Hlv]; · iexact Hlv
    isplitl [Hb]; · iexact Hb
    isplitl [V4 V5 V6]
    · isplitl [V4]; · iexact V4
      isplitl [V5]; · iexact V5
      iexact V6
    isplitl [HO]; · iexact HO
    iexact Hg
  iintro ⟨Hb, ⟨V4, V5, V6⟩, HO⟩
  iapply (wp_reshape_step 𝒱 none (fun b => m (d, b)) d main_v6 main_v7 (by decide) rfl shapeCasts_S1x1_S_ _ _ _ _ _) $$ [Hb V6 V7]
  · isplitl [Hb]; · iexact Hb
    isplitl [V6]; · iexact V6
    iexact V7
  iintro ⟨Hb, V6, V7⟩
  imodintro
  rw [hR]
  isplitl [HO HR]
  · isplitl [HO]; · iexact HO
    iexact HR
  isplitr [Hb Hts]
  · isplitl [H0]; · iexact H0
    isplitl [H1]; · iexact H1
    isplitl [H2]; · iexact H2
    iexact V7
  isplitl [Hb] <;> iassumption

end Cert.KernelIdeal.Tile
-- ==== Proof.KernelIdeal.Range.lean ====
/-
  The offsets in numbers: every class number being one of the ninety-one, each offset names an element of its array.
-/
module

public import proofs.«01_k».proof.Proof.KernelIdeal.Gathers
public import Idealize.ShloMosaic.Lib.ReduceAll

@[expose] public section

noncomputable section

namespace Cert.KernelIdeal.Tile

open Cert.KernelIdeal Cert.KernelIdeal.Gen
open Idealize.ShloMosaic

variable {F : FTy → Type} [FloatOps F]

variable (i : grid0.Coords) (j : Fin 64) (l : S16.Idx)

theorem lane_lt : (l 0).val < 16 := (l 0).isLt

theorem lanes_at : lanes l = BitVec.ofNat 32 (l 0).val := by
  show BitVec.ofNat 32 (0 * 16 + (l 0).val) = _
  rw [Nat.zero_mul, Nat.zero_add]

theorem base_at : (base i).toNat = 1000 * wid i := by
  have h0 : (i 0).val < 2 := (i 0).isLt
  have h1 : (i 1).val < 16 := (i 1).isLt
  show ((BitVec.ofNat 32 (i 0).val * 16#32 + BitVec.ofNat 32 (i 1).val) * 1000#32).toNat = 1000 * (16 * (i 0).val + (i 1).val)
  simp only [BitVec.toNat_add, BitVec.toNat_mul, BitVec.toNat_ofNat]
  omega

theorem rowL_at : (rowL j l).toNat = 16 * j.val + (l 0).val := by
  have h := lane_lt l
  have hj := j.isLt
  show (BitVec.ofNat 32 (16 * j.val) + lanes l).toNat = _
  rw [lanes_at]
  simp only [BitVec.toNat_add, BitVec.toNat_ofNat]
  omega

theorem rowG_at : (rowG i j l).toNat = 1000 * wid i + (16 * j.val + (l 0).val) := by
  have h := lane_lt l
  have hj := j.isLt
  have hw := wid_lt i
  show (base i + rowL j l).toNat = _
  rw [BitVec.toNat_add, base_at, rowL_at]
  omega

/-- A lane is taken where its row is one of the tile's thousand. -/
theorem valid_at : (validOf j l = 1#1) ↔ 16 * j.val + (l 0).val < 1000 := by
  have h := lane_lt l
  have hj := j.isLt
  show BitVec.ofBool ((rowL j l).slt 1000#32) = 1#1 ↔ _
  have e : ∀ p : Bool, (BitVec.ofBool p = 1#1) ↔ p = true := by decide
  rw [e, BitVec.slt_eq_decide, decide_eq_true_eq, BitVec.toInt_eq_toNat_cond, BitVec.toInt_eq_toNat_cond, rowL_at]
  simp only [BitVec.toNat_ofNat]
  omega

theorem pos_at (c : IVec S16 32) (hc : (c l).toNat < 91) : (posOf c l = 1#1) ↔ 0 < (c l).toNat := by
  show BitVec.ofBool ((0#32).slt (c l)) = 1#1 ↔ _
  have e : ∀ p : Bool, (BitVec.ofBool p = 1#1) ↔ p = true := by decide
  rw [e, BitVec.slt_eq_decide, decide_eq_true_eq, BitVec.toInt_eq_toNat_cond, BitVec.toInt_eq_toNat_cond]
  simp only [BitVec.toNat_ofNat]
  omega

/-- The first coordinate's offset in the predictions. -/
theorem predOff_at (c : IVec S16 32) (hc : (c l).toNat < 91) :
    (predOff i j c l).toNat = if 16 * j.val + (l 0).val < 1000 then (1000 * wid i + (16 * j.val + (l 0).val)) * 364 + 4 * (c l).toNat else 0 := by
  have h := lane_lt l
  have hj := j.isLt
  have hw := wid_lt i
  show (if validOf j l = 1#1 then rowG i j l * 364#32 + (if posOf c l = 1#1 then c l else 0#32) * 4#32 else 0#32).toNat = _
  by_cases hv : 16 * j.val + (l 0).val < 1000
  · rw [if_pos ((valid_at j l).mpr hv), if_pos hv]
    by_cases hp : 0 < (c l).toNat
    · rw [if_pos ((pos_at l c hc).mpr hp), BitVec.toNat_add, BitVec.toNat_mul, BitVec.toNat_mul, rowG_at]
      simp only [BitVec.toNat_ofNat]
      omega
    · rw [if_neg (mt (pos_at l c hc).mp hp), BitVec.toNat_add, BitVec.toNat_mul, BitVec.toNat_mul, rowG_at]
      simp only [BitVec.toNat_ofNat]
      omega
  · rw [if_neg (mt (valid_at j l).mp hv), if_neg hv]; rfl

/-- The first coordinate's offset in the targets. -/
theorem tbOff_at :
    (tbOff i j l).toNat = if 16 * j.val + (l 0).val < 1000 then (1000 * wid i + (16 * j.val + (l 0).val)) * 4 else 0 := by
  have h := lane_lt l
  have hj := j.isLt
  have hw := wid_lt i
  show (if validOf j l = 1#1 then rowG i j l * 4#32 else 0#32).toNat = _
  by_cases hv : 16 * j.val + (l 0).val < 1000
  · rw [if_pos ((valid_at j l).mpr hv), if_pos hv, BitVec.toNat_mul, rowG_at]
    simp only [BitVec.toNat_ofNat]
    omega
  · rw [if_neg (mt (valid_at j l).mp hv), if_neg hv]; rfl

variable (ids : S32000.Idx → Elt F .i32) (hids : ∀ x, BitVec.toNat (ids x) < 91)
include hids

theorem blk_lt : BitVec.toNat (blk (F := F) i ids j l) < 91 := by
  show BitVec.toNat (idsF (F := F) i ids _) < 91
  unfold idsF
  split
  · exact hids _
  · exact Nat.zero_lt_succ _

/-- Every offset is inside its array. -/
theorem inRange : InRange (F := F) (idxF i ids) := by
  intro x
  have hw := wid_lt i
  have hx : (x 0).val < 64 := (x 0).isLt
  refine ⟨fun hx0 => ?_, fun hx0 => ?_⟩
  · unfold idxF
    rw [if_pos (by omega)]
    show (predOff i (jOf x) (blk (F := F) i ids (jOf x)) (lane (x 1).val) + BitVec.ofNat 32 ((x 0).val / 8)).toNat < _
    have hl := lane_lt (lane (x 1).val)
    have hb := blk_lt i (jOf x) (lane (x 1).val) ids hids
    have hr : (x 0).val / 8 < 4 := by omega
    rw [BitVec.toNat_add, predOff_at i (jOf x) (lane (x 1).val) _ hb, BitVec.toNat_ofNat, Nat.mod_eq_of_lt (show (x 0).val / 8 < 2 ^ 32 by omega)]
    split
    · rw [Nat.mod_eq_of_lt (by omega)]; omega
    · rw [Nat.mod_eq_of_lt (by omega)]; omega
  · unfold idxF
    rw [if_neg (by omega)]
    show (tbOff i (jOf x) (lane (x 1).val) + BitVec.ofNat 32 ((x 0).val / 8 - 4)).toNat < _
    have hl := lane_lt (lane (x 1).val)
    rw [BitVec.toNat_add, tbOff_at, BitVec.toNat_ofNat]
    split <;> omega

end Cert.KernelIdeal.Tile
-- ==== Proof.KernelIdeal.Run.lean ====
/-
  The whole program's run: it ends, every counter at zero, the arguments as launched and the result known.
-/
module

public import proofs.«01_k».proof.Proof.KernelIdeal.Main
public import proofs.«01_k».proof.Proof.KernelIdeal.Range
public import proofs.«01_k».proof.Proof.Classes

@[expose] public section

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the launch is dealt from -/

/-- The rounds of the combining region's copies at the start. -/
def uP : UR sig nD τ := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P (launch m)).x q thr) := by
  unfold u₀
  iintro Hu
  ihave H := (ownU_pair (initOf (K (F := F)).hsCells (K (F := F)).hsToks) ((uP (F := F), (1 : Counters)) : UR sig nD τ × Counters)) $$ Hu
  icases H with ⟨HH, HR⟩
  ihave HR' := (own_pair_emb (embR : Emb (UR sig nD τ × Counters) 𝕄) (uP (F := F)) (1 : Counters)) $$ HR
  icases HR' with ⟨HP, -⟩
  imod (show BI.own ((Emb.inl.trans (embR : Emb (UR sig nD τ × Counters) 𝕄)) (uP (F := F))) ⊢ _ from
    Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · rw [show (bigSep Finset.univ fun d : Dev nD => Pipeline.cellsGhost (Pipeline.pin (pcfgs (F := F)) adm) EP 0 d) = (bigSep Finset.univ fun d : Dev nD =>
        bigSep Finset.univ fun p : Fin 1 => Pipeline.cellsGhost (Pipeline.pin (pcfgs (F := F)) adm) EP p d : sProp 𝕄) from
          bigSep_congr fun d _ => (bigSep_univ_of_subsingleton (Φ := fun p : Fin 1 => (Pipeline.cellsGhost (Pipeline.pin (pcfgs (F := F)) adm) EP p d : sProp 𝕄)) (0 : Fin 1)).symm]
      iexact Hg
    · rw [show (bigSep Finset.univ fun d : Dev nD => Pipeline.toksInit (Pipeline.pin (pcfgs (F := F)) adm) EP 0 d) = (bigSep Finset.univ fun d : Dev nD =>
        bigSep Finset.univ fun p : Fin 1 => Pipeline.toksInit (Pipeline.pin (pcfgs (F := F)) adm) EP p d : sProp 𝕄) from
          bigSep_congr fun d _ => (bigSep_univ_of_subsingleton (Φ := fun p : Fin 1 => (Pipeline.toksInit (Pipeline.pin (pcfgs (F := F)) adm) EP p d : sProp 𝕄)) (0 : Fin 1)).symm]
      iexact Ht
  rw [show (bigSep Finset.univ fun thr : Thread nD τ => bigSep Finset.univ fun q : Fin 1 => (P (launch m)).x q thr) = bigSep Finset.univ fun _ => iprop(emp) from
    bigSep_congr fun _ _ => bigSep_univ_of_subsingleton (0 : Fin 1), emp_all]
  iempintro

/-! ## What the run ends with -/

/-- Device `d`'s arguments as launched, and its result. -/
def fq (d : Dev nD) (s : Phys nD τ sig (Elt F)) : Prop :=
  s.mem.mem ((d.tc : Thread nD τ).loc main_arg0) = at₀ m d main_arg0 ∧ s.mem.mem ((d.tc : Thread nD τ).loc main_arg1) = at₀ m d main_arg1
    ∧ s.mem.mem ((d.tc : Thread nD τ).loc main_arg2) = at₀ m d main_arg2 ∧ s.mem.mem ((d.tc : Thread nD τ).loc main_v7) = result m d

/-- A buffer held whole is in memory what it is held at. -/
theorem agree (d : Dev nD) (b : Ref sig .tc) (f : TBuf (F := F) d b) (s : Phys nD τ sig (Elt F)) :
    iprop(SI s ∗ tpt d b f) ⊢ (iprop(⌜s.mem.mem ((d.tc : Thread nD τ).loc b) = f⌝ ∗ SI s ∗ tpt d b f) : sProp 𝕄) := by
  have h : iprop(SI s ∗ tpt d b f) ⊢ (⌜s.mem.mem ((d.tc : Thread nD τ).loc b) = f⌝ : sProp 𝕄) := by
    iintro H
    ihave H' := (SI_pointsTo_agree (st := s) (ℓ := (d.tc : Thread nD τ).loc b) (I := Finset.univ) (q := fullShare) (f := f)) $$ H
    icases H' with %h
    ipureintro; exact funext fun i => h i (Finset.mem_univ i)
  exact persistent_entails_right h

theorem hfin (d : Dev nD) (s : Phys nD τ sig (Elt F)) : iprop(FIN m d ∗ SI s) ⊢ (⌜fq m d s⌝ : sProp 𝕄) := by
  iintro ⟨⟨H0, H1, H2, H7⟩, HSI⟩
  ihave H := (agree d main_arg0 _ s) $$ [HSI H0]
  · isplitl [HSI] <;> iassumption
  icases H with ⟨%h0, HSI, -⟩
  ihave H := (agree d main_arg1 _ s) $$ [HSI H1]
  · isplitl [HSI] <;> iassumption
  icases H with ⟨%h1, HSI, -⟩
  ihave H := (agree d main_arg2 _ s) $$ [HSI H2]
  · isplitl [HSI] <;> iassumption
  icases H with ⟨%h2, HSI, -⟩
  ihave H := (agree d main_v7 _ s) $$ [HSI H7]
  · isplitl [HSI] <;> iassumption
  icases H with ⟨%h7, -, -⟩
  ipureintro; exact ⟨h0, h1, h2, h7⟩

def QC : PUnit × MemSt nD τ sig (Elt F) → Prop := fun r =>
  (∀ c : Dev nD, r.2.mem ((c.tc : Thread nD τ).loc main_arg0) = at₀ m c main_arg0 ∧ r.2.mem ((c.tc : Thread nD τ).loc main_arg1) = at₀ m c main_arg1
    ∧ r.2.mem ((c.tc : Thread nD τ).loc main_arg2) = at₀ m c main_arg2 ∧ r.2.mem ((c.tc : Thread nD τ).loc main_v7) = result m c) ∧ r.2.sem = fun _ => 0

/-- The run, from any launch memory whose class numbers keep the offsets inside the arrays. -/
theorem run_main [∀ e, Nonempty (Elt F e)] (h : AllInRange (launch m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (launch m)) (A := ∅) facts v₀
    (fun q hq => match q with | 0 => nomatch hq)
    (fun q _ => match q with | 0 => tileObl (launch m) h)
    (fun q _ => match q with | 0 => SparseCore.Cfg.VecSplit.of_plain (vecSplit (launch m)))
    m ρ main (fun d => ghost (F := F) d) (FIN m) (u₀ (F := F)) (sep_elim_left.trans (hu₀ m)) (hmain m ρ) (fq m) (hfin m) (QC m) (fun _ h hz => ⟨h, hz⟩)

/-- Under the precondition the offsets are inside the arrays. -/
theorem allInRange [Cert.Pre_in_range.Facts]
    (h : ∀ c : Dev nD, Cert.Pre_in_range.fn (F := F) (at₀ m c main_arg0) (at₀ m c main_arg1) (at₀ m c main_arg2) = fun _ => 1#1) : AllInRange (launch m) :=
  fun d i => inRange i ((launch m).ids d) fun x => Cert.Pre_in_range.classes_lt _ _ _ (h d) _

end Cert.KernelIdeal.Tile
-- ==== Proof.KernelIdeal.Sum.lean ====
/-
  The tiles' sums as extended reals: each lane's partial sum and count is the sum of its rows' terms, a row past the
  tile's thousandth adding nothing.
-/
module

public import proofs.«01_k».proof.Proof.KernelIdeal.Range
public import Idealize.ShloMosaic.Lib.IdealHost
public import Idealize.ShloMosaic.Lib.Pipeline.Value
public import Idealize.ShloMosaic.PureOps.Ideal.Laws

@[expose] public section

noncomputable section

namespace Cert.KernelIdeal.Tile

open Cert.KernelIdeal Cert.KernelIdeal.Gen
open Idealize.ShloMosaic

/-- One half, as the programs write it. -/
def half : EReal := Ideal.ofBits .f32 0x3F000000#32

/-- The smooth L1 loss of a distance, the distance of two numbers, and the mark of a foreground class. -/
def smooth (d : EReal) : EReal := if d < 1 then half * d * d else d - half
def apart (t p : EReal) : EReal := max (t - p) (-(t - p))
def mark (n : ℕ) : EReal := if 0 < n then 1 else 0

theorem bit_lt (a b : EReal) : (Ideal.cmp .olt a b = 1#1) ↔ a < b := by
  have e : ∀ p : Bool, (BitVec.ofBool p = 1#1) ↔ p = true := by decide
  show BitVec.ofBool (decide (a < b)) = 1#1 ↔ _
  rw [e, decide_eq_true_eq]

theorem same16 {α : Type} (f : S16.Idx → α) (h : S16.ShapeCasts S16) (l : S16.Idx) : shapeCast S16 f h l = f l :=
  shapeCast_apply f h l l rfl

/-- One coordinate's term in a lane. -/
theorem addTerm_at (acc m t p : FVec Ideal S16 .f32) (l : S16.Idx) :
    addTerm (F := Ideal) acc m t p l = (acc l + smooth (apart (t l) (p l)) * m l : EReal) := by
  unfold addTerm
  show (acc l + (if Ideal.cmp .olt (max (shapeCast S16 t shapeCasts_S16_S16 l - shapeCast S16 p shapeCasts_S16_S16 l : EReal) (-(shapeCast S16 t shapeCasts_S16_S16 l - shapeCast S16 p shapeCasts_S16_S16 l : EReal))) (Ideal.ofBits .f32 0x3F800000#32) = 1#1
    then (half * max (shapeCast S16 t shapeCasts_S16_S16 l - shapeCast S16 p shapeCasts_S16_S16 l : EReal) (-(shapeCast S16 t shapeCasts_S16_S16 l - shapeCast S16 p shapeCasts_S16_S16 l : EReal))
      * max (shapeCast S16 t shapeCasts_S16_S16 l - shapeCast S16 p shapeCasts_S16_S16 l : EReal) (-(shapeCast S16 t shapeCasts_S16_S16 l - shapeCast S16 p shapeCasts_S16_S16 l : EReal)) : EReal)
    else (max (shapeCast S16 t shapeCasts_S16_S16 l - shapeCast S16 p shapeCasts_S16_S16 l : EReal) (-(shapeCast S16 t shapeCasts_S16_S16 l - shapeCast S16 p shapeCasts_S16_S16 l : EReal)) - half : EReal)) * shapeCast S16 m shapeCasts_S16_S16 l : EReal) = _
  rw [same16, same16, same16, Ideal.ofBits_one_f32]
  unfold smooth apart
  simp only [bit_lt]

variable (i : grid0.Coords) (ids : S32000.Idx → Elt Ideal .i32) (tb : S128000.Idx → Elt Ideal .f32) (pred : S11648000.Idx → Elt Ideal .f32)

/-- The class number of the tile's row `n`. -/
def cls (n : ℕ) : ℕ := BitVec.toNat (idsF (F := Ideal) i ids (e1024 n))

/-- The loss of coordinate `k` of row `r` of the whole array, zero at a background row. -/
def loss (r k : ℕ) : EReal :=
  smooth (apart (tb (at2 (4 * r + k))) (pred (at3 (364 * r + 4 * BitVec.toNat (ids (at1 r)) + k)))) * mark (BitVec.toNat (ids (at1 r)))

theorem cls_row {n : ℕ} (hn : n < 1000) : cls i ids n = BitVec.toNat (ids (at1 (1000 * wid i + n))) := by
  unfold cls idsF
  have e : (e1024 n 0).val = n := Nat.mod_eq_of_lt (show n < 1024 by omega)
  rw [e, if_pos hn]

theorem cls_pad {n : ℕ} (h0 : 1000 ≤ n) (hn : n < 1024) : cls i ids n = 0 := by
  unfold cls idsF
  have e : (e1024 n 0).val = n := Nat.mod_eq_of_lt hn
  rw [e, if_neg (by omega)]; rfl

variable (hids : ∀ x, BitVec.toNat (ids x) < 91)
include hids

theorem maskOf_at (j : Fin 64) (l : S16.Idx) :
    maskOf (F := Ideal) (blk (F := Ideal) i ids j) l = mark (cls i ids (16 * j.val + (l 0).val)) := by
  have hb := blk_lt (F := Ideal) i j l ids hids
  show (if posOf (blk (F := Ideal) i ids j) l = 1#1 then Ideal.ofBits .f32 0x3F800000#32 else Ideal.ofBits .f32 0x00000000#32 : EReal) = _
  rw [Ideal.ofBits_one_f32, Ideal.ofBits_zero_f32]
  unfold mark
  simp only [pos_at l _ hb]
  rfl

/-- A lane's count. -/
theorem cntAt_at (l : S16.Idx) : ∀ n, n ≤ 64 →
    cntAt (F := Ideal) i ids n l = ∑ j ∈ Finset.range n, mark (cls i ids (16 * j + (l 0).val))
  | 0, _ => by
    show Ideal.ofBits .f32 0x00000000#32 = _
    rw [Ideal.ofBits_zero_f32, Finset.sum_range_zero]
  | n + 1, hn => by
    rw [Finset.sum_range_succ, ← cntAt_at l n (by omega)]
    show (cntAt (F := Ideal) i ids n l + maskOf (F := Ideal) (blk (F := Ideal) i ids ⟨n % 64, Nat.mod_lt _ (by decide)⟩) l : EReal) = _
    rw [maskOf_at i ids hids]
    show _ + mark (cls i ids (16 * (n % 64) + (l 0).val)) = _
    rw [Nat.mod_eq_of_lt (show n < 64 by omega)]

theorem mask_at {t : ℕ} (ht : t < 64) (l : S16.Idx) :
    from1024 (maskF (F := Ideal) i ids) (16 * t) l = mark (cls i ids (16 * t + (l 0).val)) := by
  have hl := lane_lt l
  have e : (e1024 (16 * t + (l 0).val) 0).val = 16 * t + (l 0).val := Nat.mod_eq_of_lt (show _ < 1024 by omega)
  unfold from1024 maskF
  rw [maskOf_at i ids hids]
  show mark (cls i ids (16 * ((e1024 (16 * t + (l 0).val) 0).val / 16) + (e1024 (16 * t + (l 0).val) 0).val % 16)) = _
  rw [e]
  congr 2
  omega

/-- Where the tile's term of row `16 t + l`, coordinate `b`, finds its prediction, -/
theorem predIdx_at {t b : ℕ} (ht : t < 64) (hb : b < 4) (l : S16.Idx) (hv : 16 * t + (l 0).val < 1000) :
    BitVec.toNat (idxF (F := Ideal) i ids (atIdx ((e4096 (16 * t + 1024 * b + (l 0).val) 0).val / 128) (e4096 (16 * t + 1024 * b + (l 0).val) 0).val))
      = 364 * (1000 * wid i + (16 * t + (l 0).val)) + 4 * cls i ids (16 * t + (l 0).val) + b := by
  have hl := lane_lt l
  have hw := wid_lt i
  have e : (e4096 (16 * t + 1024 * b + (l 0).val) 0).val = 16 * t + 1024 * b + (l 0).val := Nat.mod_eq_of_lt (show _ < 4096 by omega)
  rw [e]
  have r0 : (atIdx ((16 * t + 1024 * b + (l 0).val) / 128) (16 * t + 1024 * b + (l 0).val) 0).val = 8 * b + t / 8 := by
    show (16 * t + 1024 * b + (l 0).val) / 128 % 64 = _; omega
  have r1 : (atIdx ((16 * t + 1024 * b + (l 0).val) / 128) (16 * t + 1024 * b + (l 0).val) 1).val = 16 * (t % 8) + (l 0).val := by
    show (16 * t + 1024 * b + (l 0).val) % 128 = _; omega
  have hj : jOf (atIdx ((16 * t + 1024 * b + (l 0).val) / 128) (16 * t + 1024 * b + (l 0).val)) = ⟨t, ht⟩ := by
    apply Fin.ext
    unfold jOf
    simp only [r0, r1]
    omega
  have hlane : lane (16 * (t % 8) + (l 0).val) = l := by
    funext a
    obtain rfl : a = 0 := Subsingleton.elim _ _
    exact Fin.ext (show (16 * (t % 8) + (l 0).val) % 16 = (l 0).val by omega)
  unfold idxF
  rw [hj, r0, r1, hlane, if_pos (by omega), show (8 * b + t / 8) / 8 = b by omega]
  show (predOff i ⟨t, ht⟩ (blk (F := Ideal) i ids ⟨t, ht⟩) l + BitVec.ofNat 32 b).toNat = _
  have hb' := blk_lt (F := Ideal) i ⟨t, ht⟩ l ids hids
  have hc : BitVec.toNat (blk (F := Ideal) i ids ⟨t, ht⟩ l) = cls i ids (16 * t + (l 0).val) := rfl
  rw [BitVec.toNat_add, predOff_at i ⟨t, ht⟩ l _ hb', BitVec.toNat_ofNat, if_pos hv, hc]
  rw [hc] at hb'
  rw [Nat.mod_eq_of_lt (show b < 2 ^ 32 by omega), Nat.mod_eq_of_lt (by omega)]
  show (1000 * wid i + (16 * t + (l 0).val)) * 364 + 4 * cls i ids (16 * t + (l 0).val) + b = _
  omega

/-- and where its target. -/
theorem tbIdx_at {t b : ℕ} (ht : t < 64) (hb : b < 4) (l : S16.Idx) (hv : 16 * t + (l 0).val < 1000) :
    BitVec.toNat (idxF (F := Ideal) i ids (atIdx (32 + (e4096 (16 * t + 1024 * b + (l 0).val) 0).val / 128) (e4096 (16 * t + 1024 * b + (l 0).val) 0).val))
      = 4 * (1000 * wid i + (16 * t + (l 0).val)) + b := by
  have hl := lane_lt l
  have hw := wid_lt i
  have e : (e4096 (16 * t + 1024 * b + (l 0).val) 0).val = 16 * t + 1024 * b + (l 0).val := Nat.mod_eq_of_lt (show _ < 4096 by omega)
  rw [e]
  have r0 : (atIdx (32 + (16 * t + 1024 * b + (l 0).val) / 128) (16 * t + 1024 * b + (l 0).val) 0).val = 32 + (8 * b + t / 8) := by
    show (32 + (16 * t + 1024 * b + (l 0).val) / 128) % 64 = _; omega
  have r1 : (atIdx (32 + (16 * t + 1024 * b + (l 0).val) / 128) (16 * t + 1024 * b + (l 0).val) 1).val = 16 * (t % 8) + (l 0).val := by
    show (16 * t + 1024 * b + (l 0).val) % 128 = _; omega
  have hj : jOf (atIdx (32 + (16 * t + 1024 * b + (l 0).val) / 128) (16 * t + 1024 * b + (l 0).val)) = ⟨t, ht⟩ := by
    apply Fin.ext
    unfold jOf
    simp only [r0, r1]
    omega
  have hlane : lane (16 * (t % 8) + (l 0).val) = l := by
    funext a
    obtain rfl : a = 0 := Subsingleton.elim _ _
    exact Fin.ext (show (16 * (t % 8) + (l 0).val) % 16 = (l 0).val by omega)
  unfold idxF
  rw [hj, r0, r1, hlane, if_neg (by omega), show (32 + (8 * b + t / 8)) / 8 - 4 = b by omega]
  show (tbOff i ⟨t, ht⟩ l + BitVec.ofNat 32 b).toNat = _
  rw [BitVec.toNat_add, tbOff_at i ⟨t, ht⟩ l, BitVec.toNat_ofNat, if_pos hv, Nat.mod_eq_of_lt (show b < 2 ^ 32 by omega), Nat.mod_eq_of_lt (by omega)]
  show (1000 * wid i + (16 * t + (l 0).val)) * 4 + b = _
  omega

/-- One row's term of one coordinate: the loss there, or nothing past the tile's rows. -/
theorem term_at {t b : ℕ} (ht : t < 64) (hb : b < 4) (l : S16.Idx) :
    smooth (apart (from4096 (tbtF (F := Ideal) i ids tb) (16 * t + 1024 * b) l) (from4096 (gathF (F := Ideal) i ids pred) (16 * t + 1024 * b) l))
        * mark (cls i ids (16 * t + (l 0).val))
      = if 16 * t + (l 0).val < 1000 then loss ids tb pred (1000 * wid i + (16 * t + (l 0).val)) b else 0 := by
  have hl := lane_lt l
  by_cases hv : 16 * t + (l 0).val < 1000
  · rw [if_pos hv]
    unfold from4096 tbtF gathF
    rw [predIdx_at i ids hids ht hb l hv, tbIdx_at i ids hids ht hb l hv, cls_row i ids hv]
    rfl
  · rw [if_neg hv, cls_pad i ids (by omega) (by omega)]
    unfold mark
    rw [if_neg (by omega), mul_zero]

/-- A lane's partial sum. -/
theorem accAt_at (l : S16.Idx) : ∀ n, n ≤ 64 →
    accAt (F := Ideal) i ids tb pred n l
      = ∑ t ∈ Finset.range n, ∑ b ∈ Finset.range 4, if 16 * t + (l 0).val < 1000 then loss ids tb pred (1000 * wid i + (16 * t + (l 0).val)) b else 0
  | 0, _ => by
    show Ideal.ofBits .f32 0x00000000#32 = _
    rw [Ideal.ofBits_zero_f32, Finset.sum_range_zero]
  | n + 1, hn => by
    have hn' : n < 64 := by omega
    rw [Finset.sum_range_succ, ← accAt_at l n (by omega)]
    show accStep (F := Ideal) i ids tb pred (accAt (F := Ideal) i ids tb pred n) n l = _
    unfold accStep
    simp only [addTerm_at, mask_at i ids hids hn']
    simp only [Finset.sum_range_succ, Finset.sum_range_zero, zero_add]
    rw [← term_at i ids tb pred hids hn' (b := 0) (by omega) l, ← term_at i ids tb pred hids hn' (b := 1) (by omega) l,
      ← term_at i ids tb pred hids hn' (b := 2) (by omega) l, ← term_at i ids tb pred hids hn' (b := 3) (by omega) l]
    simp only [add_assoc]

end Cert.KernelIdeal.Tile
-- ==== Proof.KernelIdeal.Total.lean ====
/-
  The whole kernel's result as an extended real: the loss summed over every row and coordinate, over four times the
  foreground rows.
-/
module

public import proofs.«01_k».proof.Proof.KernelIdeal.Sum
public import proofs.«01_k».proof.Proof.KernelIdeal.Main
public import Idealize.ShloMosaic.Lib.ValueIdxRank1

@[expose] public section

noncomputable section

namespace Cert.KernelIdeal.Tile

open Cert.KernelIdeal Cert.KernelIdeal.Gen
open Idealize.ShloMosaic Idealize.SL.Sem

/-! ## Sums regrouped -/

/-- A sum over `m n` terms, `n` blocks of `m`. -/
theorem sum_blocks (m : ℕ) (f : ℕ → EReal) : ∀ n, ∑ x ∈ Finset.range (m * n), f x = ∑ t ∈ Finset.range n, ∑ l ∈ Finset.range m, f (m * t + l)
  | 0 => by rw [Nat.mul_zero, Finset.sum_range_zero, Finset.sum_range_zero]
  | n + 1 => by rw [Nat.mul_succ, Finset.sum_range_add, sum_blocks m f n, Finset.sum_range_succ]

/-- A tile's sum, lane by lane and block by block, is its thousand rows'. -/
theorem sum_tile (f : ℕ → EReal) :
    (∑ l ∈ Finset.range 16, ∑ t ∈ Finset.range 64, if 16 * t + l < 1000 then f (16 * t + l) else 0) = ∑ x ∈ Finset.range 1000, f x := by
  have h1 := sum_blocks 16 (fun x => if x < 1000 then f x else 0) 64
  have h2 := Finset.sum_range_add (fun x => if x < 1000 then f x else 0) 1000 24
  rw [Finset.sum_comm]
  refine (h1.symm.trans h2).trans ?_
  rw [Finset.sum_eq_zero (s := Finset.range 24) fun x _ => if_neg (by omega), add_zero]
  exact Finset.sum_congr rfl fun x hx => if_pos (Finset.mem_range.mp hx)

/-- Reshaping does not change a total. -/
theorem sum_shapeCast {s t : Shape} (f : s.Idx → EReal) (h : s.ShapeCasts t) : ∑ j, shapeCast t f h j = ∑ j, f j :=
  Equiv.sum_comp (Shape.reshapeEquiv h) f

/-- Entry `n` of the tiles' results. -/
def e512 (n : ℕ) : S512.Idx := fun a => match a with | 0 => ⟨n % 512, Nat.mod_lt _ (by decide)⟩

theorem sum_512 (f : S512.Idx → EReal) : ∑ x, f x = ∑ w ∈ Finset.range 32, ∑ l ∈ Finset.range 16, f (e512 (16 * w + l)) := by
  refine Eq.trans ?_ (sum_blocks 16 (fun n => f (e512 n)) 32)
  rw [← Equiv.sum_comp (ValueIdx.idxEquiv1 (n := 512)).symm f]
  refine Eq.trans (Finset.sum_congr rfl fun a _ => ?_) (Fin.sum_univ_eq_sum_range (fun n => f (e512 n)) 512)
  refine congrArg f (funext fun b => ?_)
  obtain rfl : b = 0 := Subsingleton.elim _ _
  exact Fin.ext (Nat.mod_eq_of_lt a.isLt).symm

variable (ids : S32000.Idx → Elt Ideal .i32) (tb : S128000.Idx → Elt Ideal .f32) (pred : S11648000.Idx → Elt Ideal .f32)
variable (hids : ∀ x, BitVec.toNat (ids x) < 91)
include hids

theorem wid_tileOf {w l : ℕ} (hw : w < 32) (hl : l < 16) : wid (tileOf (e512 (16 * w + l))) = w := by
  unfold tileOf
  rw [wid_tileAt]
  show (16 * w + l) % 512 / 16 = w
  omega

theorem lane_e512 {w l : ℕ} (hw : w < 32) (hl : l < 16) : (lane (e512 (16 * w + l) 0).val 0).val = l := by
  show (16 * w + l) % 512 % 16 = l
  omega

/-- The tiles' partial sums add up to the loss of all rows and coordinates. -/
theorem sum_sumsF : ∑ x, sumsF (F := Ideal) ids tb pred x = ∑ r ∈ Finset.range 32000, ∑ b ∈ Finset.range 4, loss ids tb pred r b := by
  rw [sum_512]
  refine Eq.trans (Finset.sum_congr rfl fun w hw => ?_) (sum_blocks 1000 (fun r => ∑ b ∈ Finset.range 4, loss ids tb pred r b) 32).symm
  have hw := Finset.mem_range.mp hw
  refine Eq.trans (Finset.sum_congr rfl fun l hl => ?_) (sum_tile (fun x => ∑ b ∈ Finset.range 4, loss ids tb pred (1000 * w + x) b))
  have hl := Finset.mem_range.mp hl
  unfold sumsF
  rw [accAt_at _ ids tb pred hids _ 64 le_rfl, wid_tileOf ids hids hw hl, lane_e512 ids hids hw hl]
  refine Finset.sum_congr rfl fun t _ => ?_
  split
  · rfl
  · exact Finset.sum_const_zero

/-- The tiles' counts add up to the foreground rows. -/
theorem sum_cntsF : ∑ x, cntsF (F := Ideal) ids x = ∑ r ∈ Finset.range 32000, mark (BitVec.toNat (ids (at1 r))) := by
  rw [sum_512]
  refine Eq.trans (Finset.sum_congr rfl fun w hw => ?_) (sum_blocks 1000 (fun r => mark (BitVec.toNat (ids (at1 r)))) 32).symm
  have hw := Finset.mem_range.mp hw
  refine Eq.trans (Finset.sum_congr rfl fun l hl => ?_) (sum_tile (fun x => mark (BitVec.toNat (ids (at1 (1000 * w + x))))))
  have hl := Finset.mem_range.mp hl
  unfold cntsF
  rw [cntAt_at _ ids hids _ 64 le_rfl, lane_e512 ids hids hw hl]
  refine Finset.sum_congr rfl fun t ht => ?_
  have ht := Finset.mem_range.mp ht
  by_cases hv : 16 * t + l < 1000
  · rw [if_pos hv, cls_row _ ids hv, wid_tileOf ids hids hw hl]
  · rw [if_neg hv, cls_pad _ ids (by omega) (by omega)]
    exact if_neg (by omega)

omit hids in
/-- The combining call's quotient. -/
theorem quot_at (a b : Vec Ideal S32x16 .f32) (j : S1x1.Idx) :
    quot (F := Ideal) a b j = Ideal.div (∑ x, (a x : EReal)) ((∑ x, (b x : EReal)) * Ideal.ofBits .f32 0x40800000#32) := by
  have total : ∀ v : Vec Ideal S32x16 .f32, ∀ k,
      multiReduction (F := Ideal) .add [1, 2] S1 (shapeCast S1x32x16 (shapeCast S32x16 v shapeCasts_S32x16_S32x16) shapeCasts_S32x16_S1x32x16) 0x00000000#32
        reduces_S1x32x16_S1 (.inl rfl) rfl k = ∑ x, (v x : EReal) := fun v k => by
    exact (Ideal.multiReduction_add_total _ _ reduces_S1x32x16_S1 (by decide) _ _ k).trans ((sum_shapeCast _ _).trans (sum_shapeCast _ _))
  unfold quot k1_pay1
  show Ideal.div (multiReduction (F := Ideal) .add [1, 2] S1 (shapeCast S1x32x16 (shapeCast S32x16 a shapeCasts_S32x16_S32x16) shapeCasts_S32x16_S1x32x16) 0x00000000#32
        reduces_S1x32x16_S1 (.inl rfl) rfl _) (multiReduction (F := Ideal) .add [1, 2] S1 (shapeCast S1x32x16 (shapeCast S32x16 b shapeCasts_S32x16_S32x16) shapeCasts_S32x16_S1x32x16) 0x00000000#32
        reduces_S1x32x16_S1 (.inl rfl) rfl _ * Ideal.ofBits .f32 0x40800000#32) = _
  rw [total, total]

omit hids in
/-- What `@main` returns. -/
theorem result_at (m : (ℓ : Loc nD τ sig) → Buf (Elt Ideal) ℓ) (d : Dev nD) (h : ∀ x, BitVec.toNat ((launch m).ids d x) < 91) (j : S_.Idx) :
    result m d j = Ideal.div (∑ r ∈ Finset.range 32000, ∑ b ∈ Finset.range 4, loss ((launch m).ids d) ((launch m).tb d) ((launch m).pred d) r b)
      ((∑ r ∈ Finset.range 32000, mark (BitVec.toNat ((launch m).ids d (at1 r)))) * Ideal.ofBits .f32 0x40800000#32) := by
  unfold result
  refine (quot_at _ _ _).trans ?_
  rw [sum_shapeCast (sumsF (F := Ideal) ((launch m).ids d) ((launch m).tb d) ((launch m).pred d)) shapeCasts_S512_S32x16,
    sum_shapeCast (cntsF (F := Ideal) ((launch m).ids d)) shapeCasts_S512_S32x16, sum_sumsF _ _ _ h, sum_cntsF _ h]

end Cert.KernelIdeal.Tile
-- ==== Proof.Reference.lean ====
/-
  The reference's result as an extended real, from its arguments: the same sum of losses over the same count as the
  kernel's. The reference gathers the prediction of the row's class, takes the smooth L1 loss by multiplying each of
  its two branches by the 0/1 mark of the comparison, and multiplies by the 0/1 mark of a foreground row.
-/
module

public import proofs.«01_k».proof.Proof.Gen.ReferenceIdeal.Read
public import proofs.«01_k».proof.Proof.KernelIdeal.Sum
public import Idealize.ShloMosaic.Lib.ReduceAll
public import Idealize.ShloMosaic.Lib.ValueIdxCore

@[expose] public section

noncomputable section

namespace Cert.ReferenceIdeal.Loss

open Cert.ReferenceIdeal Cert.ReferenceIdeal.Gen Cert.ReferenceIdeal.Read
open Cert.KernelIdeal.Tile (half smooth apart mark loss at1 at2 at3 bit_lt)
open Idealize.ShloMosaic

/-- A property of every class number is one of every word below ninety-one. -/
theorem small (P : BitVec 32 → Prop) (h : ∀ n : Fin 91, P (BitVec.ofNat 32 n.val)) (v : BitVec 32) (hv : v.toNat < 91) : P v := by
  have e := h ⟨v.toNat, hv⟩
  rwa [show BitVec.ofNat 32 (Fin.val ⟨v.toNat, hv⟩ : ℕ) = v from BitVec.eq_of_toNat_eq (by
    rw [BitVec.toNat_ofNat]; exact Nat.mod_eq_of_lt v.isLt)] at e

/-- The comparison "greater than zero" of a class number. -/
theorem sgt_small (v : BitVec 32) (hv : v.toNat < 91) : IntOp.cmpi .sgt v 0#32 = if 0 < v.toNat then 1#1 else 0#1 :=
  small (fun v => IntOp.cmpi .sgt v 0#32 = if 0 < v.toNat then 1#1 else 0#1) (by decide +kernel) v hv

/-- Zeroing what is not above zero changes no class number. -/
theorem keep_small (v : BitVec 32) (hv : v.toNat < 91) : Scalar.select (IntOp.cmpi .sgt v 0#32) v 0#32 = v :=
  small (fun v => Scalar.select (IntOp.cmpi .sgt v 0#32) v 0#32 = v) (by decide +kernel) v hv

/-- A class number is not negative, so it is not counted from the end. -/
theorem wrap_small (v : BitVec 32) (hv : v.toNat < 91) : Scalar.select (IntOp.cmpi .slt v 0#32) (IntOp.addi v 91#32) v = v :=
  small (fun v => Scalar.select (IntOp.cmpi .slt v 0#32) (IntOp.addi v 91#32) v = v) (by decide +kernel) v hv

/-- A class number is in the gather's range. -/
theorem range_small (v : BitVec 32) (hv : v.toNat < 91) : IntOp.andi (IntOp.cmpi .sge v 0#32) (IntOp.cmpi .sle v 90#32) = 1#1 :=
  small (fun v => IntOp.andi (IntOp.cmpi .sge v 0#32) (IntOp.cmpi .sle v 90#32) = 1#1) (by decide +kernel) v hv

/-- A class number read as a signed one. -/
theorem int_small (v : BitVec 32) (hv : v.toNat < 91) : min v.toInt.toNat (91 - 1) = v.toNat :=
  small (fun v => min v.toInt.toNat (91 - 1) = v.toNat) (by decide +kernel) v hv

/-- A truth value as a number. -/
theorem asNum (x : BitVec 1) : (FloatOps.uitofp (F := Ideal) .f32 x : EReal) = if x = 1#1 then 1 else 0 := by
  have two : ∀ x : BitVec 1, x = 0#1 ∨ x = 1#1 := by decide
  rcases two x with rfl | rfl
  · show (((0 : ℕ) : ℝ) : EReal) = _
    rw [if_neg (by decide)]; simp
  · show (((1 : ℕ) : ℝ) : EReal) = _
    rw [if_pos rfl]; simp

/-- The two branches, each times its mark, add up to the loss. -/
theorem branches (d b : EReal) (hb : b = if d < 1 then 1 else 0) : b * half * d * d + (1 - b) * (d - half) = smooth d := by
  unfold smooth
  by_cases h : d < 1
  · rw [if_pos h] at hb ⊢
    subst hb
    have e : (1 : EReal) - 1 = 0 := EReal.sub_self (by decide) (by decide)
    rw [e, one_mul, zero_mul, add_zero]
  · rw [if_neg h] at hb ⊢
    subst hb
    rw [zero_mul, zero_mul, zero_mul, sub_zero, one_mul, zero_add]

variable (x0 : (⟨S32x1000x4, .f32⟩ : BufTy).Contents (Elt Ideal)) (x1 : (⟨S32x1000, .i32⟩ : BufTy).Contents (Elt Ideal))
  (x2 : (⟨S32x1000x91x4, .f32⟩ : BufTy).Contents (Elt Ideal))
  (h0 : S32x1000x4.ShapeCasts Cert.KernelIdeal.S128000) (h1 : S32x1000.ShapeCasts Cert.KernelIdeal.S32000)
  (h2 : S32x1000x91x4.ShapeCasts Cert.KernelIdeal.S11648000)

/-- The target of row `r`, coordinate `k`, in the flat array. -/
theorem target_at (i : S32000x4.Idx) :
    val_main_v1 (F := Ideal) x0 i = shapeCast Cert.KernelIdeal.S128000 x0 h0 (at2 (4 * (i 0).val + (i 1).val)) := by
  have b0 : (i 0).val < 32000 := (i 0).isLt
  have b1 : (i 1).val < 4 := (i 1).isLt
  rw [val_main_v1_apply]
  refine (shapeCast_apply x0 h0 _ (idx_main_v1 i) ?_).symm
  rewrite [Shape.rowMajor_val_three, Shape.rowMajor_val_one]
  show (((i 0).val * 4 + (i 1).val) / 4000 * 1000 + ((i 0).val * 4 + (i 1).val) / 4 % 1000) * 4 + ((i 0).val * 4 + (i 1).val) % 4
    = (4 * (i 0).val + (i 1).val) % 128000
  omega

/-- The prediction of row `r`, class `c`, coordinate `k`, in the flat array. -/
theorem pred_at (i : S32000x91x4.Idx) :
    val_main_v2 (F := Ideal) x2 i = shapeCast Cert.KernelIdeal.S11648000 x2 h2 (at3 (364 * (i 0).val + 4 * (i 1).val + (i 2).val)) := by
  have b0 : (i 0).val < 32000 := (i 0).isLt
  have b1 : (i 1).val < 91 := (i 1).isLt
  have b2 : (i 2).val < 4 := (i 2).isLt
  rw [val_main_v2_apply]
  refine (shapeCast_apply x2 h2 _ (idx_main_v2 i) ?_).symm
  rewrite [Shape.rowMajor_val_four, Shape.rowMajor_val_one]
  show (((((i 0).val * 91 + (i 1).val) * 4 + (i 2).val) / 364000 * 1000 + (((i 0).val * 91 + (i 1).val) * 4 + (i 2).val) / 364 % 1000) * 91
      + (((i 0).val * 91 + (i 1).val) * 4 + (i 2).val) / 4 % 91) * 4 + (((i 0).val * 91 + (i 1).val) * 4 + (i 2).val) % 4
    = (364 * (i 0).val + 4 * (i 1).val + (i 2).val) % 11648000
  omega

/-- The class of row `r` in the flat array. -/
theorem class_at (r : S32000.Idx) : val_main_v0 (F := Ideal) x1 r = shapeCast Cert.KernelIdeal.S32000 x1 h1 (at1 (r 0).val) := by
  have b0 : (r 0).val < 32000 := (r 0).isLt
  have e : r = at1 (r 0).val := by
    funext a
    obtain rfl : a = 0 := Subsingleton.elim _ _
    exact Fin.ext (Nat.mod_eq_of_lt b0).symm
  conv_lhs => rw [e]
  rfl

variable (hids : ∀ x, BitVec.toNat (x1 x) < 91)
include hids

theorem class_lt (r : S32000.Idx) : BitVec.toNat (val_main_v0 (F := Ideal) x1 r) < 91 := by
  rw [val_main_v0_apply]; exact hids _

/-- The 0/1 mark of a foreground row. -/
theorem mark_at (r : S32000.Idx) : val_main_v24 (F := Ideal) x1 r = mark (BitVec.toNat (val_main_v0 (F := Ideal) x1 r)) := by
  rw [val_main_v24_apply, val_main_v4_apply, val_main_v3_apply, val_main_c_apply]
  rw [sgt_small _ (class_lt x1 hids r)]
  refine (asNum _).trans ?_
  unfold mark
  by_cases h : 0 < BitVec.toNat (val_main_v0 (F := Ideal) x1 r)
  · rw [if_pos h, if_pos h, if_pos rfl]
  · rw [if_neg h, if_neg h, if_neg (by decide)]

/-- The class the reference gathers by is the row's own. -/
theorem take_at (r : S32000x1x1.Idx) : val_main_call1_v4 (F := Ideal) x1 r = val_main_v0 (F := Ideal) x1 (idx_main_v6 r) := by
  have hv := class_lt x1 hids (idx_main_v6 r)
  have e : val_main_v6 (F := Ideal) x1 r = val_main_v0 (F := Ideal) x1 (idx_main_v6 r) := by
    rw [val_main_v6_apply, val_main_v5_apply, val_main_v4_apply, val_main_v3_apply, val_main_c_apply,
      val_main_call0_v1_apply, val_main_call0_v0_apply, val_main_c_0_apply]
    exact keep_small _ hv
  rw [val_main_call1_v4_apply, val_main_call1_v1_apply, val_main_call1_v0_apply, val_main_call1_c_apply,
    val_main_call1_v3_apply, val_main_call1_v2_apply, val_main_call1_c_0_apply, e]
  exact wrap_small _ hv

/-- Every row's class is in the gather's range, so no row reads the fill value. -/
theorem valid_at (j : S32000x1.Idx) : val_main_call1_v11 (F := Ideal) x1 j = 1#1 := by
  unfold val_main_call1_v11
  refine Host.reduce_andi_one _ _ _ _ j rfl fun i => ?_
  rw [val_main_call1_v10_apply, val_main_call1_v6_apply, val_main_call1_v9_apply, val_main_call1_v5_apply,
    val_main_call1_c_2_apply, val_main_call1_v8_apply, val_main_call1_v7_apply, val_main_call1_c_1_apply,
    take_at x1 hids]
  exact range_small _ (class_lt x1 hids _)

/-- The row, as an index of the gather's start indices. -/
def rowIdx (j : S32000x1x4.Idx) : S32000x1x1.Idx := fun a => match a with
  | ⟨0, _⟩ => ⟨(j 0).val, (j 0).isLt⟩
  | ⟨1, _⟩ => ⟨0, Nat.one_pos⟩
  | ⟨2, _⟩ => ⟨0, Nat.one_pos⟩

/-- The index of row `j 0`'s class and coordinate `j 2` in the predictions. -/
def predIdx (j : S32000x1x4.Idx) (n : ℕ) (hn : n < 91) : S32000x91x4.Idx := fun a => match a with
  | ⟨0, _⟩ => ⟨(j 0).val, (j 0).isLt⟩
  | ⟨1, _⟩ => ⟨n, hn⟩
  | ⟨2, _⟩ => ⟨(j 2).val, (j 2).isLt⟩

omit hids in
/-- The gather reads the row's prediction of its class. -/
theorem gather_at (x : S32000x91x4.Idx → EReal) (idx : IVec S32000x1x1 32) (j : S32000x1x4.Idx) (hn : BitVec.toNat (idx (rowIdx j)) < 91) :
    Host.gather gather_S32000x91x4_S32000x1x1_S32000x1x4_2_1_0_0_1_2_114 x idx j = x (predIdx j (BitVec.toNat (idx (rowIdx j))) hn) := by
  unfold Host.gather
  refine congrArg x (funext fun a => Fin.ext ?_)
  show GatherDims.start _ j idx a + GatherDims.batchCoord _ j a + GatherDims.offCoord _ j a = _
  have m0 : (0 : Fin 3) ∈ gather_S32000x91x4_S32000x1x1_S32000x1x4_2_1_0_0_1_2_114.operandBatchingDims := List.mem_singleton.mpr rfl
  have m1 : (1 : Fin 3) ∈ gather_S32000x91x4_S32000x1x1_S32000x1x4_2_1_0_0_1_2_114.startIndexMap := List.mem_singleton.mpr rfl
  have n1 : (1 : Fin 3) ∉ gather_S32000x91x4_S32000x1x1_S32000x1x4_2_1_0_0_1_2_114.operandBatchingDims := fun h => absurd (List.mem_singleton.mp h) (by decide)
  have n2 : (2 : Fin 3) ∉ gather_S32000x91x4_S32000x1x1_S32000x1x4_2_1_0_0_1_2_114.operandBatchingDims := fun h => absurd (List.mem_singleton.mp h) (by decide)
  have c1 : (1 : Fin 3) ∈ gather_S32000x91x4_S32000x1x1_S32000x1x4_2_1_0_0_1_2_114.collapsedSliceDims := List.mem_singleton.mpr rfl
  have c2 : (2 : Fin 3) ∉ gather_S32000x91x4_S32000x1x1_S32000x1x4_2_1_0_0_1_2_114.collapsedSliceDims := fun h => absurd (List.mem_singleton.mp h) (by decide)
  have s2 : (2 : Fin 3) ∉ gather_S32000x91x4_S32000x1x1_S32000x1x4_2_1_0_0_1_2_114.startIndexMap := fun h => absurd (List.mem_singleton.mp h) (by decide)
  have k2 : (2 : Fin 3) ∈ gather_S32000x91x4_S32000x1x1_S32000x1x4_2_1_0_0_1_2_114.sKept := (GatherDims.mem_sKept _ _).mpr ⟨c2, n2⟩
  have three : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases three with rfl | rfl | rfl
  · rw [GatherDims.start_batching _ _ _ _ m0, GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.batchCoord_eq_zero _ _ _ n1, GatherDims.offCoord_eq_zero _ _ _ (fun h => ((GatherDims.mem_sKept _ _).mp h).1 c1)]
    simp only [Nat.add_zero]
    unfold GatherDims.start
    rw [dif_pos m1]
    have hsi : ∀ c, GatherDims.siIdx gather_S32000x91x4_S32000x1x1_S32000x1x4_2_1_0_0_1_2_114 j c = rowIdx j := by
      intro c
      obtain rfl : c = ⟨0, Nat.one_pos⟩ := Fin.ext (Nat.lt_one_iff.1 c.isLt)
      funext b; refine Fin.ext ?_
      match b with
      | ⟨0, _⟩ => rfl
      | ⟨1, _⟩ => exact Nat.lt_one_iff.1 (Fin.isLt _)
      | ⟨2, _⟩ => rfl
    rw [hsi]
    exact int_small _ hn
  · rw [GatherDims.batchCoord_eq_zero _ _ _ n2]
    unfold GatherDims.start
    rw [dif_neg s2]
    simp only [Nat.zero_add]
    unfold GatherDims.offCoord
    rw [dif_pos k2]
    rfl

/-- The gathered prediction of row `i 0`, coordinate `i 1`. -/
theorem taken_at (i : S32000x4.Idx) :
    val_main_v8 (F := Ideal) x1 x2 i = shapeCast Cert.KernelIdeal.S11648000 x2 h2
      (at3 (364 * (i 0).val + 4 * BitVec.toNat (shapeCast Cert.KernelIdeal.S32000 x1 h1 (at1 (i 0).val)) + (i 1).val)) := by
  have b0 : (i 0).val < 32000 := (i 0).isLt
  have b1 : (i 1).val < 4 := (i 1).isLt
  have ec := take_at x1 hids (rowIdx (idx_main_v8 i))
  rw [class_at x1 h1] at ec
  have e0 : ((idx_main_v6 (rowIdx (idx_main_v8 i))) 0).val = (i 0).val := by
    show ((i 0).val * 4 + (i 1).val) / 4 = (i 0).val; omega
  rw [e0] at ec
  have hn : BitVec.toNat (val_main_call1_v4 (F := Ideal) x1 (rowIdx (idx_main_v8 i))) < 91 := by
    rw [take_at x1 hids]; exact class_lt x1 hids _
  rw [val_main_v8_apply, val_main_v7_apply, val_main_call1_v13_apply, valid_at x1 hids]
  show val_main_call1_v12 (F := Ideal) x1 x2 (idx_main_v8 i) = _
  unfold val_main_call1_v12
  rw [gather_at _ _ _ hn, pred_at x2 h2]
  show shapeCast Cert.KernelIdeal.S11648000 x2 h2 (at3 (364 * (((i 0).val * 4 + (i 1).val) / 4)
    + 4 * BitVec.toNat (val_main_call1_v4 (F := Ideal) x1 (rowIdx (idx_main_v8 i))) + ((i 0).val * 4 + (i 1).val) % 4)) = _
  rw [ec, show ((i 0).val * 4 + (i 1).val) / 4 = (i 0).val by omega, show ((i 0).val * 4 + (i 1).val) % 4 = (i 1).val by omega]

/-- The reference's term of row `i 0`, coordinate `i 1`, is the kernel's. -/
theorem term_at (i : S32000x4.Idx) :
    val_main_v27 (F := Ideal) x0 x1 x2 i = loss (shapeCast Cert.KernelIdeal.S32000 x1 h1) (shapeCast Cert.KernelIdeal.S128000 x0 h0)
      (shapeCast Cert.KernelIdeal.S11648000 x2 h2) (i 0).val (i 1).val := by
  have ed : val_main_v10 (F := Ideal) x0 x1 x2 i = apart (val_main_v1 (F := Ideal) x0 i) (val_main_v8 (F := Ideal) x1 x2 i) := rfl
  have eb : val_main_v13 (F := Ideal) x0 x1 x2 i = if (val_main_v10 (F := Ideal) x0 x1 x2 i : EReal) < 1 then (1 : EReal) else 0 := by
    rw [val_main_v13_apply, val_main_v12_apply, val_main_v11_apply, val_main_cst_apply]
    refine (asNum _).trans ?_
    show (if Ideal.cmp .olt (val_main_v10 (F := Ideal) x0 x1 x2 i) (Ideal.ofBits .f32 0x3F800000#32) = 1#1 then (1 : EReal) else 0) = _
    rw [Ideal.ofBits_one_f32]
    simp only [bit_lt]
  have es : val_main_v23 (F := Ideal) x0 x1 x2 i = smooth (val_main_v10 (F := Ideal) x0 x1 x2 i) := by
    rw [val_main_v23_apply, val_main_v17_apply, val_main_v16_apply, val_main_v15_apply, val_main_v14_apply, val_main_cst_1_apply,
      val_main_v22_apply, val_main_v21_apply, val_main_v20_apply, val_main_cst_3_apply, val_main_v19_apply, val_main_v18_apply,
      val_main_cst_2_apply]
    refine Eq.trans ?_ (branches _ _ eb)
    show (val_main_v13 (F := Ideal) x0 x1 x2 i * half * val_main_v10 (F := Ideal) x0 x1 x2 i * val_main_v10 (F := Ideal) x0 x1 x2 i
      + (Ideal.ofBits .f32 0x3F800000#32 - val_main_v13 (F := Ideal) x0 x1 x2 i) * (val_main_v10 (F := Ideal) x0 x1 x2 i - half) : EReal) = _
    rw [Ideal.ofBits_one_f32]
  rw [val_main_v27_apply, es, ed, target_at x0 h0, taken_at x1 x2 h1 h2 hids, val_main_v26_apply, val_main_v25_apply,
    mark_at x1 hids, class_at x1 h1]
  rfl

/-- The reference's result: the losses summed over every row and coordinate, over four times the foreground rows. -/
theorem value_at (j : S_.Idx) :
    val_main_v31 (F := Ideal) x0 x1 x2 j = Ideal.div
      (∑ r ∈ Finset.range 32000, ∑ b ∈ Finset.range 4, loss (shapeCast Cert.KernelIdeal.S32000 x1 h1)
        (shapeCast Cert.KernelIdeal.S128000 x0 h0) (shapeCast Cert.KernelIdeal.S11648000 x2 h2) r b)
      ((∑ r ∈ Finset.range 32000, mark (BitVec.toNat (shapeCast Cert.KernelIdeal.S32000 x1 h1 (at1 r)))) * Ideal.ofBits .f32 0x40800000#32) := by
  have en : val_main_v28 (F := Ideal) x0 x1 x2 j = ∑ r ∈ Finset.range 32000, ∑ b ∈ Finset.range 4,
      loss (shapeCast Cert.KernelIdeal.S32000 x1 h1) (shapeCast Cert.KernelIdeal.S128000 x0 h0) (shapeCast Cert.KernelIdeal.S11648000 x2 h2) r b := by
    rw [val_main_v28_apply]
    show (Ideal.ofBits .f32 0x00000000#32 + ∑ i : S32000x4.Idx, val_main_v27 (F := Ideal) x0 x1 x2 i : EReal) = _
    rw [Ideal.ofBits_zero_f32, zero_add]
    simp only [term_at x0 x1 x2 h0 h1 h2 hids]
    rw [← Fin.sum_univ_eq_sum_range (fun r => ∑ b ∈ Finset.range 4, loss (shapeCast Cert.KernelIdeal.S32000 x1 h1)
      (shapeCast Cert.KernelIdeal.S128000 x0 h0) (shapeCast Cert.KernelIdeal.S11648000 x2 h2) r b) 32000]
    refine (ValueIdx.sum_idx2 _).trans (Finset.sum_congr rfl fun r _ => ?_)
    exact Fin.sum_univ_eq_sum_range (fun b => loss (shapeCast Cert.KernelIdeal.S32000 x1 h1)
      (shapeCast Cert.KernelIdeal.S128000 x0 h0) (shapeCast Cert.KernelIdeal.S11648000 x2 h2) r.val b) 4
  have ec : val_main_v29 (F := Ideal) x1 j = ∑ r ∈ Finset.range 32000, mark (BitVec.toNat (shapeCast Cert.KernelIdeal.S32000 x1 h1 (at1 r))) := by
    rw [val_main_v29_apply]
    show (Ideal.ofBits .f32 0x00000000#32 + ∑ i : S32000x1.Idx, val_main_v25 (F := Ideal) x1 i : EReal) = _
    rw [Ideal.ofBits_zero_f32, zero_add]
    simp only [val_main_v25_apply, mark_at x1 hids, class_at x1 h1]
    rw [← Fin.sum_univ_eq_sum_range (fun r => mark (BitVec.toNat (shapeCast Cert.KernelIdeal.S32000 x1 h1 (at1 r)))) 32000]
    refine (ValueIdx.sum_idx2 _).trans (Finset.sum_congr rfl fun r _ => ?_)
    exact Fin.sum_univ_one _
  rw [val_main_v31_apply, val_main_v30_apply, en, ec]
  rfl

end Cert.ReferenceIdeal.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Kernel.Run
public import proofs.«01_k».proof.Proof.KernelIdeal.Run
public import proofs.«01_k».proof.Proof.KernelIdeal.Total
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel runs and leaves its arguments and the counters as they were. -/
theorem frame_p : Cert.quiescent_Kernel := fun m g h =>
  (θ_run Cert.Kernel.defs _ _).mono (fun _ h => ⟨fun c => ⟨(h.1 c).1, (h.1 c).2.1, (h.1 c).2.2.1⟩, h.2⟩)
    (Cert.Kernel.Tile.run_main (F := Bits) m g (Cert.Kernel.Tile.allInRange m h))

/-- So does its reading at the extended reals, -/
theorem frame_pi : Cert.quiescent_KernelIdeal := fun m g h =>
  (θ_run Cert.KernelIdeal.defs _ _).mono (fun _ h => ⟨fun c => ⟨(h.1 c).1, (h.1 c).2.1, (h.1 c).2.2.1⟩, h.2⟩)
    (Cert.KernelIdeal.Tile.run_main (F := Ideal) m g (Cert.KernelIdeal.Tile.allInRange m h))

/-- and the reference, which has no counters. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From arguments the precondition admits, the kernel's result and the reference's are one extended real: the same
    losses summed over every row and coordinate, over four times the same count. -/
theorem same_value (m : (ℓ : Loc Cert.KernelIdeal.nD Cert.KernelIdeal.τ Cert.KernelIdeal.sig) → Buf (Elt Ideal) ℓ)
    (h : Cert.Pre_KernelIdeal m) (c : Dev Cert.KernelIdeal.nD) :
    Cert.ReferenceIdeal.Read.val_main_v31 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = Cert.KernelIdeal.Tile.result m c := by
  funext j
  refine (Cert.ReferenceIdeal.Loss.value_at _ _ _ Cert.KernelIdeal.Gen.shapeCasts_S32x1000x4_S128000
    Cert.KernelIdeal.Gen.shapeCasts_S32x1000_S32000 Cert.KernelIdeal.Gen.shapeCasts_S32x1000x91x4_S11648000
    (fun x => Cert.Pre_in_range.classes_lt _ _ _ (h c) x) j).trans ?_
  exact (Cert.KernelIdeal.Tile.result_at m c (fun x => Cert.Pre_in_range.classes_lt _ _ _ (h c) _) j).symm

/-- The kernel at the extended reals returns what the reference returns. -/
theorem algebraic : Cert.algebraic_KernelIdeal_ReferenceIdeal := fun m g m' g' h agree =>
  ⟨fun c => Cert.KernelIdeal.Tile.result m c,
    (θ_run Cert.KernelIdeal.defs _ _).mono (fun _ h => fun c => ⟨(h.1 c).2.2.2, (h.1 c).1, (h.1 c).2.1, (h.1 c).2.2.1⟩)
      (Cert.KernelIdeal.Tile.run_main (F := Ideal) m g (Cert.KernelIdeal.Tile.allInRange m h)),
    (θ_run Cert.ReferenceIdeal.defs _ _).mono (fun r k => fun c => ⟨by
        refine (k c).1.trans ((Cert.ReferenceIdeal.Read.val_main_v31_eq m' c).trans ?_)
        rw [(agree c).1, (agree c).2.1, (agree c).2.2]
        exact same_value m h c, (k c).2⟩)
      (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Pre_in_range.Gen.facts,
    frame_p, frame_pi, frame_ri, fun m g _ => frame_ri m g trivial, trivial, algebraic⟩

end Cert.Proof

end
